-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S50x32 : Shape := ⟨2, ![50, 32]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : IVec S4096x200 1) (main_arg2 : FVec F S50x32 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 50#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S50x32 : Shape := ⟨2, ![50, 32]⟩
abbrev S819200 : Shape := ⟨1, ![819200]⟩
abbrev S_ : Shape := ⟨0, ![]⟩
abbrev S8192 : Shape := ⟨1, ![8192]⟩
abbrev S64x32 : Shape := ⟨2, ![64, 32]⟩
abbrev S262144 : Shape := ⟨1, ![262144]⟩
abbrev S25616 : Shape := ⟨1, ![25616]⟩
abbrev S25600 : Shape := ⟨1, ![25600]⟩
abbrev S16 : Shape := ⟨1, ![16]⟩
abbrev S4096x64 : Shape := ⟨2, ![4096, 64]⟩
abbrev S4096x32 : Shape := ⟨2, ![4096, 32]⟩
abbrev S512x64 : Shape := ⟨2, ![512, 64]⟩
abbrev S512x32 : Shape := ⟨2, ![512, 32]⟩

abbrev nBuf : Table → Nat
  | .hbm => 14
  | .local .tc .vmem => 5
  | .local .scVector .vmem => 3
  | _ => 0

abbrev bufTy : (tb : Table) → Fin (nBuf tb) → BufTy
  | .hbm, ⟨0, _⟩ => ⟨S4096x200, .i32⟩
  | .hbm, ⟨1, _⟩ => ⟨S4096x200, .i1⟩
  | .hbm, ⟨2, _⟩ => ⟨S50x32, .f32⟩
  | .hbm, ⟨3, _⟩ => ⟨S819200, .i32⟩
  | .hbm, ⟨4, _⟩ => ⟨S4096x200, .f32⟩
  | .hbm, ⟨5, _⟩ => ⟨S819200, .f32⟩
  | .hbm, ⟨6, _⟩ => ⟨S_, .f32⟩
  | .hbm, ⟨7, _⟩ => ⟨S8192, .f32⟩
  | .hbm, ⟨8, _⟩ => ⟨S_, .i32⟩
  | .hbm, ⟨9, _⟩ => ⟨S_, .f32⟩
  | .hbm, ⟨10, _⟩ => ⟨S64x32, .f32⟩
  | .hbm, ⟨11, _⟩ => ⟨S262144, .f32⟩
  | .hbm, ⟨12, _⟩ => ⟨S4096x64, .f32⟩
  | .hbm, ⟨13, _⟩ => ⟨S4096x32, .f32⟩
  | .local .tc .vmem, ⟨0, _⟩ => ⟨S512x64, .f32⟩
  | .local .tc .vmem, ⟨1, _⟩ => ⟨S512x64, .f32⟩
  | .local .tc .vmem, ⟨2, _⟩ => ⟨S64x32, .f32⟩
  | .local .tc .vmem, ⟨3, _⟩ => ⟨S512x32, .f32⟩
  | .local .tc .vmem, ⟨4, _⟩ => ⟨S512x32, .f32⟩
  | .local .scVector .vmem, ⟨0, _⟩ => ⟨S25616, .i32⟩
  | .local .scVector .vmem, ⟨1, _⟩ => ⟨S25616, .f32⟩
  | .local .scVector .vmem, ⟨2, _⟩ => ⟨S8192, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v0_scv : Ref sig .scVector := ⟨.hbm, 3, rfl⟩
abbrev main_v2_scv : Ref sig .scVector := ⟨.hbm, 5, rfl⟩
abbrev main_v3_scv : Ref sig .scVector := ⟨.hbm, 7, rfl⟩
abbrev main_v5_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  ![v3.toNat]
@[reducible] def k0_t1_loop : Scf.Loop 32 :=
  let c0_i32_2 : BitVec 32 := 0#32
  let c32_i32 : BitVec 32 := 32#32
  let v10 : BitVec 32 := Scalar.addi c0_i32_2 c32_i32
  let c1_i32 : BitVec 32 := 1#32
  ⟨c0_i32_2, v10, c1_i32⟩
def k0_off2 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_6 : BitVec 32 := 200#32
  let v16 : BitVec 32 := Scalar.muli v13 c200_i32_6
  let c0_i32_7 : BitVec 32 := 0#32
  let v17 : BitVec 32 := Scalar.addi v16 c0_i32_7
  let v18 : Index := Scalar.indexCast v17
  ![v18.toNat]

def k0_chk1 (v20 : IVec S16 32) : Prop :=
  (∀ a x, ((![v20] : Fin 1 → IVec S16 32) a x).toNat < S8192.size a)
theorem k0_idx1_inb : ∀ (v20 : IVec S16 32) (k0_hw1 : k0_chk1 v20), ∀ a x, ((![v20] : Fin 1 → IVec S16 32) a x).toNat < S8192.size a := fun v20 k0_hw1 => k0_hw1
def k0_off3 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_10 : BitVec 32 := 200#32
  let v25 : BitVec 32 := Scalar.muli v13 c200_i32_10
  let c16_i32 : BitVec 32 := 16#32
  let v26 : BitVec 32 := Scalar.addi v25 c16_i32
  let v27 : Index := Scalar.indexCast v26
  ![v27.toNat]

def k0_chk2 (v29 : IVec S16 32) : Prop :=
  (∀ a x, ((![v29] : Fin 1 → IVec S16 32) a x).toNat < S8192.size a)
theorem k0_idx2_inb : ∀ (v29 : IVec S16 32) (k0_hw2 : k0_chk2 v29), ∀ a x, ((![v29] : Fin 1 → IVec S16 32) a x).toNat < S8192.size a := fun v29 k0_hw2 => k0_hw2
def k0_off4 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_13 : BitVec 32 := 200#32
  let v34 : BitVec 32 := Scalar.muli v13 c200_i32_13
  let c32_i32_14 : BitVec 32 := 32#32
  let v35 : BitVec 32 := Scalar.addi v34 c32_i32_14
  let v36 : Index := Scalar.indexCast v35
  ![v36.toNat]

def k0_chk3 (v38 : IVec S16 32) : Prop :=
  (∀ a x, ((![v38] : Fin 1 → IVec S16 32) a x).toNat < S8192.size a)
theorem k0_idx3_inb : ∀ (v38 : IVec S16 32) (k0_hw3 : k0_chk3 v38), ∀ a x, ((![v38] : Fin 1 → IVec S16 32) a x).toNat < S8192.size a := fun v38 k0_hw3 => k0_hw3
def k0_off5 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_17 : BitVec 32 := 200#32
  let v43 : BitVec 32 := Scalar.muli v13 c200_i32_17
  let c48_i32 : BitVec 32 := 48#32
  let v44 : BitVec 32 := Scalar.addi v43 c48_i32
  let v45 : Index := Scalar.indexCast v44
  ![v45.toNat]

def k0_chk4 (v47 : IVec S16 32) : Prop :=
  (∀ a x, ((![v47] : Fin 1 → IVec S16 32) a x).toNat < S8192.size a)
theorem k0_idx4_inb : ∀ (v47 : IVec S16 32) (k0_hw4 : k0_chk4 v47), ∀ a x, ((![v47] : Fin 1 → IVec S16 32) a x).toNat < S8192.size a := fun v47 k0_hw4 => k0_hw4
def k0_off6 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_20 : BitVec 32 := 200#32
  let v52 : BitVec 32 := Scalar.muli v13 c200_i32_20
  let c64_i32_21 : BitVec 32 := 64#32
  let v53 : BitVec 32 := Scalar.addi v52 c64_i32_21
  let v54 : Index := Scalar.indexCast v53
  ![v54.toNat]

def k0_chk5 (v56 : IVec S16 32) : Prop :=
  (∀ a x, ((![v56] : Fin 1 → IVec S16 32) a x).toNat < S8192.size a)
theorem k0_idx5_inb : ∀ (v56 : IVec S16 32) (k0_hw5 : k0_chk5 v56), ∀ a x, ((![v56] : Fin 1 → IVec S16 32) a x).toNat < S8192.size a := fun v56 k0_hw5 => k0_hw5
def k0_off7 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_24 : BitVec 32 := 200#32
  let v61 : BitVec 32 := Scalar.muli v13 c200_i32_24
  let c80_i32 : BitVec 32 := 80#32
  let v62 : BitVec 32 := Scalar.addi v61 c80_i32
  let v63 : Index := Scalar.indexCast v62
  ![v63.toNat]

def k0_chk6 (v65 : IVec S16 32) : Prop :=
  (∀ a x, ((![v65] : Fin 1 → IVec S16 32) a x).toNat < S8192.size a)
theorem k0_idx6_inb : ∀ (v65 : IVec S16 32) (k0_hw6 : k0_chk6 v65), ∀ a x, ((![v65] : Fin 1 → IVec S16 32) a x).toNat < S8192.size a := fun v65 k0_hw6 => k0_hw6
def k0_off8 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_27 : BitVec 32 := 200#32
  let v70 : BitVec 32 := Scalar.muli v13 c200_i32_27
  let c96_i32 : BitVec 32 := 96#32
  let v71 : BitVec 32 := Scalar.addi v70 c96_i32
  let v72 : Index := Scalar.indexCast v71
  ![v72.toNat]

def k0_chk7 (v74 : IVec S16 32) : Prop :=
  (∀ a x, ((![v74] : Fin 1 → IVec S16 32) a x).toNat < S8192.size a)
theorem k0_idx7_inb : ∀ (v74 : IVec S16 32) (k0_hw7 : k0_chk7 v74), ∀ a x, ((![v74] : Fin 1 → IVec S16 32) a x).toNat < S8192.size a := fun v74 k0_hw7 => k0_hw7
def k0_off9 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_30 : BitVec 32 := 200#32
  let v79 : BitVec 32 := Scalar.muli v13 c200_i32_30
  let c112_i32 : BitVec 32 := 112#32
  let v80 : BitVec 32 := Scalar.addi v79 c112_i32
  let v81 : Index := Scalar.indexCast v80
  ![v81.toNat]

def k0_chk8 (v83 : IVec S16 32) : Prop :=
  (∀ a x, ((![v83] : Fin 1 → IVec S16 32) a x).toNat < S8192.size a)
theorem k0_idx8_inb : ∀ (v83 : IVec S16 32) (k0_hw8 : k0_chk8 v83), ∀ a x, ((![v83] : Fin 1 → IVec S16 32) a x).toNat < S8192.size a := fun v83 k0_hw8 => k0_hw8
def k0_off10 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_33 : BitVec 32 := 200#32
  let v88 : BitVec 32 := Scalar.muli v13 c200_i32_33
  let c128_i32_34 : BitVec 32 := 128#32
  let v89 : BitVec 32 := Scalar.addi v88 c128_i32_34
  let v90 : Index := Scalar.indexCast v89
  ![v90.toNat]

def k0_chk9 (v92 : IVec S16 32) : Prop :=
  (∀ a x, ((![v92] : Fin 1 → IVec S16 32) a x).toNat < S8192.size a)
theorem k0_idx9_inb : ∀ (v92 : IVec S16 32) (k0_hw9 : k0_chk9 v92), ∀ a x, ((![v92] : Fin 1 → IVec S16 32) a x).toNat < S8192.size a := fun v92 k0_hw9 => k0_hw9
def k0_off11 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_37 : BitVec 32 := 200#32
  let v97 : BitVec 32 := Scalar.muli v13 c200_i32_37
  let c144_i32 : BitVec 32 := 144#32
  let v98 : BitVec 32 := Scalar.addi v97 c144_i32
  let v99 : Index := Scalar.indexCast v98
  ![v99.toNat]

def k0_chk10 (v101 : IVec S16 32) : Prop :=
  (∀ a x, ((![v101] : Fin 1 → IVec S16 32) a x).toNat < S8192.size a)
theorem k0_idx10_inb : ∀ (v101 : IVec S16 32) (k0_hw10 : k0_chk10 v101), ∀ a x, ((![v101] : Fin 1 → IVec S16 32) a x).toNat < S8192.size a := fun v101 k0_hw10 => k0_hw10
def k0_off12 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_40 : BitVec 32 := 200#32
  let v106 : BitVec 32 := Scalar.muli v13 c200_i32_40
  let c160_i32 : BitVec 32 := 160#32
  let v107 : BitVec 32 := Scalar.addi v106 c160_i32
  let v108 : Index := Scalar.indexCast v107
  ![v108.toNat]

def k0_chk11 (v110 : IVec S16 32) : Prop :=
  (∀ a x, ((![v110] : Fin 1 → IVec S16 32) a x).toNat < S8192.size a)
theorem k0_idx11_inb : ∀ (v110 : IVec S16 32) (k0_hw11 : k0_chk11 v110), ∀ a x, ((![v110] : Fin 1 → IVec S16 32) a x).toNat < S8192.size a := fun v110 k0_hw11 => k0_hw11
def k0_off13 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_43 : BitVec 32 := 200#32
  let v115 : BitVec 32 := Scalar.muli v13 c200_i32_43
  let c176_i32 : BitVec 32 := 176#32
  let v116 : BitVec 32 := Scalar.addi v115 c176_i32
  let v117 : Index := Scalar.indexCast v116
  ![v117.toNat]

def k0_chk12 (v119 : IVec S16 32) : Prop :=
  (∀ a x, ((![v119] : Fin 1 → IVec S16 32) a x).toNat < S8192.size a)
theorem k0_idx12_inb : ∀ (v119 : IVec S16 32) (k0_hw12 : k0_chk12 v119), ∀ a x, ((![v119] : Fin 1 → IVec S16 32) a x).toNat < S8192.size a := fun v119 k0_hw12 => k0_hw12
def k0_off14 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32 : BitVec 32 := 4#32
  let v12 : BitVec 32 := Scalar.muli arg9 c4_i32
  let c0_i32_4 : BitVec 32 := 0#32
  let v13 : BitVec 32 := Scalar.addi v12 c0_i32_4
  let c200_i32_46 : BitVec 32 := 200#32
  let v124 : BitVec 32 := Scalar.muli v13 c200_i32_46
  let c192_i32 : BitVec 32 := 192#32
  let v125 : BitVec 32 := Scalar.addi v124 c192_i32
  let v126 : Index := Scalar.indexCast v125
  ![v126.toNat]

def k0_chk13 (v128 : IVec S16 32) : Prop :=
  (∀ a x, ((![v128] : Fin 1 → IVec S16 32) a x).toNat < S8192.size a)
theorem k0_idx13_inb : ∀ (v128 : IVec S16 32) (k0_hw13 : k0_chk13 v128), ∀ a x, ((![v128] : Fin 1 → IVec S16 32) a x).toNat < S8192.size a := fun v128 k0_hw13 => k0_hw13
def k0_off15 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_52 : BitVec 32 := 200#32
  let v137 : BitVec 32 := Scalar.muli v134 c200_i32_52
  let c0_i32_53 : BitVec 32 := 0#32
  let v138 : BitVec 32 := Scalar.addi v137 c0_i32_53
  let v139 : Index := Scalar.indexCast v138
  ![v139.toNat]

def k0_chk14 (v141 : IVec S16 32) : Prop :=
  (∀ a x, ((![v141] : Fin 1 → IVec S16 32) a x).toNat < S8192.size a)
theorem k0_idx14_inb : ∀ (v141 : IVec S16 32) (k0_hw14 : k0_chk14 v141), ∀ a x, ((![v141] : Fin 1 → IVec S16 32) a x).toNat < S8192.size a := fun v141 k0_hw14 => k0_hw14
def k0_off16 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_56 : BitVec 32 := 200#32
  let v146 : BitVec 32 := Scalar.muli v134 c200_i32_56
  let c16_i32_57 : BitVec 32 := 16#32
  let v147 : BitVec 32 := Scalar.addi v146 c16_i32_57
  let v148 : Index := Scalar.indexCast v147
  ![v148.toNat]

def k0_chk15 (v150 : IVec S16 32) : Prop :=
  (∀ a x, ((![v150] : Fin 1 → IVec S16 32) a x).toNat < S8192.size a)
theorem k0_idx15_inb : ∀ (v150 : IVec S16 32) (k0_hw15 : k0_chk15 v150), ∀ a x, ((![v150] : Fin 1 → IVec S16 32) a x).toNat < S8192.size a := fun v150 k0_hw15 => k0_hw15
def k0_off17 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_60 : BitVec 32 := 200#32
  let v155 : BitVec 32 := Scalar.muli v134 c200_i32_60
  let c32_i32_61 : BitVec 32 := 32#32
  let v156 : BitVec 32 := Scalar.addi v155 c32_i32_61
  let v157 : Index := Scalar.indexCast v156
  ![v157.toNat]

def k0_chk16 (v159 : IVec S16 32) : Prop :=
  (∀ a x, ((![v159] : Fin 1 → IVec S16 32) a x).toNat < S8192.size a)
theorem k0_idx16_inb : ∀ (v159 : IVec S16 32) (k0_hw16 : k0_chk16 v159), ∀ a x, ((![v159] : Fin 1 → IVec S16 32) a x).toNat < S8192.size a := fun v159 k0_hw16 => k0_hw16
def k0_off18 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_64 : BitVec 32 := 200#32
  let v164 : BitVec 32 := Scalar.muli v134 c200_i32_64
  let c48_i32_65 : BitVec 32 := 48#32
  let v165 : BitVec 32 := Scalar.addi v164 c48_i32_65
  let v166 : Index := Scalar.indexCast v165
  ![v166.toNat]

def k0_chk17 (v168 : IVec S16 32) : Prop :=
  (∀ a x, ((![v168] : Fin 1 → IVec S16 32) a x).toNat < S8192.size a)
theorem k0_idx17_inb : ∀ (v168 : IVec S16 32) (k0_hw17 : k0_chk17 v168), ∀ a x, ((![v168] : Fin 1 → IVec S16 32) a x).toNat < S8192.size a := fun v168 k0_hw17 => k0_hw17
def k0_off19 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_68 : BitVec 32 := 200#32
  let v173 : BitVec 32 := Scalar.muli v134 c200_i32_68
  let c64_i32_69 : BitVec 32 := 64#32
  let v174 : BitVec 32 := Scalar.addi v173 c64_i32_69
  let v175 : Index := Scalar.indexCast v174
  ![v175.toNat]

def k0_chk18 (v177 : IVec S16 32) : Prop :=
  (∀ a x, ((![v177] : Fin 1 → IVec S16 32) a x).toNat < S8192.size a)
theorem k0_idx18_inb : ∀ (v177 : IVec S16 32) (k0_hw18 : k0_chk18 v177), ∀ a x, ((![v177] : Fin 1 → IVec S16 32) a x).toNat < S8192.size a := fun v177 k0_hw18 => k0_hw18
def k0_off20 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_72 : BitVec 32 := 200#32
  let v182 : BitVec 32 := Scalar.muli v134 c200_i32_72
  let c80_i32_73 : BitVec 32 := 80#32
  let v183 : BitVec 32 := Scalar.addi v182 c80_i32_73
  let v184 : Index := Scalar.indexCast v183
  ![v184.toNat]

def k0_chk19 (v186 : IVec S16 32) : Prop :=
  (∀ a x, ((![v186] : Fin 1 → IVec S16 32) a x).toNat < S8192.size a)
theorem k0_idx19_inb : ∀ (v186 : IVec S16 32) (k0_hw19 : k0_chk19 v186), ∀ a x, ((![v186] : Fin 1 → IVec S16 32) a x).toNat < S8192.size a := fun v186 k0_hw19 => k0_hw19
def k0_off21 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_76 : BitVec 32 := 200#32
  let v191 : BitVec 32 := Scalar.muli v134 c200_i32_76
  let c96_i32_77 : BitVec 32 := 96#32
  let v192 : BitVec 32 := Scalar.addi v191 c96_i32_77
  let v193 : Index := Scalar.indexCast v192
  ![v193.toNat]

def k0_chk20 (v195 : IVec S16 32) : Prop :=
  (∀ a x, ((![v195] : Fin 1 → IVec S16 32) a x).toNat < S8192.size a)
theorem k0_idx20_inb : ∀ (v195 : IVec S16 32) (k0_hw20 : k0_chk20 v195), ∀ a x, ((![v195] : Fin 1 → IVec S16 32) a x).toNat < S8192.size a := fun v195 k0_hw20 => k0_hw20
def k0_off22 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_80 : BitVec 32 := 200#32
  let v200 : BitVec 32 := Scalar.muli v134 c200_i32_80
  let c112_i32_81 : BitVec 32 := 112#32
  let v201 : BitVec 32 := Scalar.addi v200 c112_i32_81
  let v202 : Index := Scalar.indexCast v201
  ![v202.toNat]

def k0_chk21 (v204 : IVec S16 32) : Prop :=
  (∀ a x, ((![v204] : Fin 1 → IVec S16 32) a x).toNat < S8192.size a)
theorem k0_idx21_inb : ∀ (v204 : IVec S16 32) (k0_hw21 : k0_chk21 v204), ∀ a x, ((![v204] : Fin 1 → IVec S16 32) a x).toNat < S8192.size a := fun v204 k0_hw21 => k0_hw21
def k0_off23 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_84 : BitVec 32 := 200#32
  let v209 : BitVec 32 := Scalar.muli v134 c200_i32_84
  let c128_i32_85 : BitVec 32 := 128#32
  let v210 : BitVec 32 := Scalar.addi v209 c128_i32_85
  let v211 : Index := Scalar.indexCast v210
  ![v211.toNat]

def k0_chk22 (v213 : IVec S16 32) : Prop :=
  (∀ a x, ((![v213] : Fin 1 → IVec S16 32) a x).toNat < S8192.size a)
theorem k0_idx22_inb : ∀ (v213 : IVec S16 32) (k0_hw22 : k0_chk22 v213), ∀ a x, ((![v213] : Fin 1 → IVec S16 32) a x).toNat < S8192.size a := fun v213 k0_hw22 => k0_hw22
def k0_off24 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_88 : BitVec 32 := 200#32
  let v218 : BitVec 32 := Scalar.muli v134 c200_i32_88
  let c144_i32_89 : BitVec 32 := 144#32
  let v219 : BitVec 32 := Scalar.addi v218 c144_i32_89
  let v220 : Index := Scalar.indexCast v219
  ![v220.toNat]

def k0_chk23 (v222 : IVec S16 32) : Prop :=
  (∀ a x, ((![v222] : Fin 1 → IVec S16 32) a x).toNat < S8192.size a)
theorem k0_idx23_inb : ∀ (v222 : IVec S16 32) (k0_hw23 : k0_chk23 v222), ∀ a x, ((![v222] : Fin 1 → IVec S16 32) a x).toNat < S8192.size a := fun v222 k0_hw23 => k0_hw23
def k0_off25 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_92 : BitVec 32 := 200#32
  let v227 : BitVec 32 := Scalar.muli v134 c200_i32_92
  let c160_i32_93 : BitVec 32 := 160#32
  let v228 : BitVec 32 := Scalar.addi v227 c160_i32_93
  let v229 : Index := Scalar.indexCast v228
  ![v229.toNat]

def k0_chk24 (v231 : IVec S16 32) : Prop :=
  (∀ a x, ((![v231] : Fin 1 → IVec S16 32) a x).toNat < S8192.size a)
theorem k0_idx24_inb : ∀ (v231 : IVec S16 32) (k0_hw24 : k0_chk24 v231), ∀ a x, ((![v231] : Fin 1 → IVec S16 32) a x).toNat < S8192.size a := fun v231 k0_hw24 => k0_hw24
def k0_off26 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_96 : BitVec 32 := 200#32
  let v236 : BitVec 32 := Scalar.muli v134 c200_i32_96
  let c176_i32_97 : BitVec 32 := 176#32
  let v237 : BitVec 32 := Scalar.addi v236 c176_i32_97
  let v238 : Index := Scalar.indexCast v237
  ![v238.toNat]

def k0_chk25 (v240 : IVec S16 32) : Prop :=
  (∀ a x, ((![v240] : Fin 1 → IVec S16 32) a x).toNat < S8192.size a)
theorem k0_idx25_inb : ∀ (v240 : IVec S16 32) (k0_hw25 : k0_chk25 v240), ∀ a x, ((![v240] : Fin 1 → IVec S16 32) a x).toNat < S8192.size a := fun v240 k0_hw25 => k0_hw25
def k0_off27 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_49 : BitVec 32 := 4#32
  let v133 : BitVec 32 := Scalar.muli arg9 c4_i32_49
  let c1_i32_50 : BitVec 32 := 1#32
  let v134 : BitVec 32 := Scalar.addi v133 c1_i32_50
  let c200_i32_100 : BitVec 32 := 200#32
  let v245 : BitVec 32 := Scalar.muli v134 c200_i32_100
  let c192_i32_101 : BitVec 32 := 192#32
  let v246 : BitVec 32 := Scalar.addi v245 c192_i32_101
  let v247 : Index := Scalar.indexCast v246
  ![v247.toNat]

def k0_chk26 (v249 : IVec S16 32) : Prop :=
  (∀ a x, ((![v249] : Fin 1 → IVec S16 32) a x).toNat < S8192.size a)
theorem k0_idx26_inb : ∀ (v249 : IVec S16 32) (k0_hw26 : k0_chk26 v249), ∀ a x, ((![v249] : Fin 1 → IVec S16 32) a x).toNat < S8192.size a := fun v249 k0_hw26 => k0_hw26
def k0_off28 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_107 : BitVec 32 := 200#32
  let v258 : BitVec 32 := Scalar.muli v255 c200_i32_107
  let c0_i32_108 : BitVec 32 := 0#32
  let v259 : BitVec 32 := Scalar.addi v258 c0_i32_108
  let v260 : Index := Scalar.indexCast v259
  ![v260.toNat]

def k0_chk27 (v262 : IVec S16 32) : Prop :=
  (∀ a x, ((![v262] : Fin 1 → IVec S16 32) a x).toNat < S8192.size a)
theorem k0_idx27_inb : ∀ (v262 : IVec S16 32) (k0_hw27 : k0_chk27 v262), ∀ a x, ((![v262] : Fin 1 → IVec S16 32) a x).toNat < S8192.size a := fun v262 k0_hw27 => k0_hw27
def k0_off29 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_111 : BitVec 32 := 200#32
  let v267 : BitVec 32 := Scalar.muli v255 c200_i32_111
  let c16_i32_112 : BitVec 32 := 16#32
  let v268 : BitVec 32 := Scalar.addi v267 c16_i32_112
  let v269 : Index := Scalar.indexCast v268
  ![v269.toNat]

def k0_chk28 (v271 : IVec S16 32) : Prop :=
  (∀ a x, ((![v271] : Fin 1 → IVec S16 32) a x).toNat < S8192.size a)
theorem k0_idx28_inb : ∀ (v271 : IVec S16 32) (k0_hw28 : k0_chk28 v271), ∀ a x, ((![v271] : Fin 1 → IVec S16 32) a x).toNat < S8192.size a := fun v271 k0_hw28 => k0_hw28
def k0_off30 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_115 : BitVec 32 := 200#32
  let v276 : BitVec 32 := Scalar.muli v255 c200_i32_115
  let c32_i32_116 : BitVec 32 := 32#32
  let v277 : BitVec 32 := Scalar.addi v276 c32_i32_116
  let v278 : Index := Scalar.indexCast v277
  ![v278.toNat]

def k0_chk29 (v280 : IVec S16 32) : Prop :=
  (∀ a x, ((![v280] : Fin 1 → IVec S16 32) a x).toNat < S8192.size a)
theorem k0_idx29_inb : ∀ (v280 : IVec S16 32) (k0_hw29 : k0_chk29 v280), ∀ a x, ((![v280] : Fin 1 → IVec S16 32) a x).toNat < S8192.size a := fun v280 k0_hw29 => k0_hw29
def k0_off31 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_119 : BitVec 32 := 200#32
  let v285 : BitVec 32 := Scalar.muli v255 c200_i32_119
  let c48_i32_120 : BitVec 32 := 48#32
  let v286 : BitVec 32 := Scalar.addi v285 c48_i32_120
  let v287 : Index := Scalar.indexCast v286
  ![v287.toNat]

def k0_chk30 (v289 : IVec S16 32) : Prop :=
  (∀ a x, ((![v289] : Fin 1 → IVec S16 32) a x).toNat < S8192.size a)
theorem k0_idx30_inb : ∀ (v289 : IVec S16 32) (k0_hw30 : k0_chk30 v289), ∀ a x, ((![v289] : Fin 1 → IVec S16 32) a x).toNat < S8192.size a := fun v289 k0_hw30 => k0_hw30
def k0_off32 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_123 : BitVec 32 := 200#32
  let v294 : BitVec 32 := Scalar.muli v255 c200_i32_123
  let c64_i32_124 : BitVec 32 := 64#32
  let v295 : BitVec 32 := Scalar.addi v294 c64_i32_124
  let v296 : Index := Scalar.indexCast v295
  ![v296.toNat]

def k0_chk31 (v298 : IVec S16 32) : Prop :=
  (∀ a x, ((![v298] : Fin 1 → IVec S16 32) a x).toNat < S8192.size a)
theorem k0_idx31_inb : ∀ (v298 : IVec S16 32) (k0_hw31 : k0_chk31 v298), ∀ a x, ((![v298] : Fin 1 → IVec S16 32) a x).toNat < S8192.size a := fun v298 k0_hw31 => k0_hw31
def k0_off33 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_127 : BitVec 32 := 200#32
  let v303 : BitVec 32 := Scalar.muli v255 c200_i32_127
  let c80_i32_128 : BitVec 32 := 80#32
  let v304 : BitVec 32 := Scalar.addi v303 c80_i32_128
  let v305 : Index := Scalar.indexCast v304
  ![v305.toNat]

def k0_chk32 (v307 : IVec S16 32) : Prop :=
  (∀ a x, ((![v307] : Fin 1 → IVec S16 32) a x).toNat < S8192.size a)
theorem k0_idx32_inb : ∀ (v307 : IVec S16 32) (k0_hw32 : k0_chk32 v307), ∀ a x, ((![v307] : Fin 1 → IVec S16 32) a x).toNat < S8192.size a := fun v307 k0_hw32 => k0_hw32
def k0_off34 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_131 : BitVec 32 := 200#32
  let v312 : BitVec 32 := Scalar.muli v255 c200_i32_131
  let c96_i32_132 : BitVec 32 := 96#32
  let v313 : BitVec 32 := Scalar.addi v312 c96_i32_132
  let v314 : Index := Scalar.indexCast v313
  ![v314.toNat]

def k0_chk33 (v316 : IVec S16 32) : Prop :=
  (∀ a x, ((![v316] : Fin 1 → IVec S16 32) a x).toNat < S8192.size a)
theorem k0_idx33_inb : ∀ (v316 : IVec S16 32) (k0_hw33 : k0_chk33 v316), ∀ a x, ((![v316] : Fin 1 → IVec S16 32) a x).toNat < S8192.size a := fun v316 k0_hw33 => k0_hw33
def k0_off35 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_135 : BitVec 32 := 200#32
  let v321 : BitVec 32 := Scalar.muli v255 c200_i32_135
  let c112_i32_136 : BitVec 32 := 112#32
  let v322 : BitVec 32 := Scalar.addi v321 c112_i32_136
  let v323 : Index := Scalar.indexCast v322
  ![v323.toNat]

def k0_chk34 (v325 : IVec S16 32) : Prop :=
  (∀ a x, ((![v325] : Fin 1 → IVec S16 32) a x).toNat < S8192.size a)
theorem k0_idx34_inb : ∀ (v325 : IVec S16 32) (k0_hw34 : k0_chk34 v325), ∀ a x, ((![v325] : Fin 1 → IVec S16 32) a x).toNat < S8192.size a := fun v325 k0_hw34 => k0_hw34
def k0_off36 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_139 : BitVec 32 := 200#32
  let v330 : BitVec 32 := Scalar.muli v255 c200_i32_139
  let c128_i32_140 : BitVec 32 := 128#32
  let v331 : BitVec 32 := Scalar.addi v330 c128_i32_140
  let v332 : Index := Scalar.indexCast v331
  ![v332.toNat]

def k0_chk35 (v334 : IVec S16 32) : Prop :=
  (∀ a x, ((![v334] : Fin 1 → IVec S16 32) a x).toNat < S8192.size a)
theorem k0_idx35_inb : ∀ (v334 : IVec S16 32) (k0_hw35 : k0_chk35 v334), ∀ a x, ((![v334] : Fin 1 → IVec S16 32) a x).toNat < S8192.size a := fun v334 k0_hw35 => k0_hw35
def k0_off37 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_143 : BitVec 32 := 200#32
  let v339 : BitVec 32 := Scalar.muli v255 c200_i32_143
  let c144_i32_144 : BitVec 32 := 144#32
  let v340 : BitVec 32 := Scalar.addi v339 c144_i32_144
  let v341 : Index := Scalar.indexCast v340
  ![v341.toNat]

def k0_chk36 (v343 : IVec S16 32) : Prop :=
  (∀ a x, ((![v343] : Fin 1 → IVec S16 32) a x).toNat < S8192.size a)
theorem k0_idx36_inb : ∀ (v343 : IVec S16 32) (k0_hw36 : k0_chk36 v343), ∀ a x, ((![v343] : Fin 1 → IVec S16 32) a x).toNat < S8192.size a := fun v343 k0_hw36 => k0_hw36
def k0_off38 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_147 : BitVec 32 := 200#32
  let v348 : BitVec 32 := Scalar.muli v255 c200_i32_147
  let c160_i32_148 : BitVec 32 := 160#32
  let v349 : BitVec 32 := Scalar.addi v348 c160_i32_148
  let v350 : Index := Scalar.indexCast v349
  ![v350.toNat]

def k0_chk37 (v352 : IVec S16 32) : Prop :=
  (∀ a x, ((![v352] : Fin 1 → IVec S16 32) a x).toNat < S8192.size a)
theorem k0_idx37_inb : ∀ (v352 : IVec S16 32) (k0_hw37 : k0_chk37 v352), ∀ a x, ((![v352] : Fin 1 → IVec S16 32) a x).toNat < S8192.size a := fun v352 k0_hw37 => k0_hw37
def k0_off39 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_151 : BitVec 32 := 200#32
  let v357 : BitVec 32 := Scalar.muli v255 c200_i32_151
  let c176_i32_152 : BitVec 32 := 176#32
  let v358 : BitVec 32 := Scalar.addi v357 c176_i32_152
  let v359 : Index := Scalar.indexCast v358
  ![v359.toNat]

def k0_chk38 (v361 : IVec S16 32) : Prop :=
  (∀ a x, ((![v361] : Fin 1 → IVec S16 32) a x).toNat < S8192.size a)
theorem k0_idx38_inb : ∀ (v361 : IVec S16 32) (k0_hw38 : k0_chk38 v361), ∀ a x, ((![v361] : Fin 1 → IVec S16 32) a x).toNat < S8192.size a := fun v361 k0_hw38 => k0_hw38
def k0_off40 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_104 : BitVec 32 := 4#32
  let v254 : BitVec 32 := Scalar.muli arg9 c4_i32_104
  let c2_i32_105 : BitVec 32 := 2#32
  let v255 : BitVec 32 := Scalar.addi v254 c2_i32_105
  let c200_i32_155 : BitVec 32 := 200#32
  let v366 : BitVec 32 := Scalar.muli v255 c200_i32_155
  let c192_i32_156 : BitVec 32 := 192#32
  let v367 : BitVec 32 := Scalar.addi v366 c192_i32_156
  let v368 : Index := Scalar.indexCast v367
  ![v368.toNat]

def k0_chk39 (v370 : IVec S16 32) : Prop :=
  (∀ a x, ((![v370] : Fin 1 → IVec S16 32) a x).toNat < S8192.size a)
theorem k0_idx39_inb : ∀ (v370 : IVec S16 32) (k0_hw39 : k0_chk39 v370), ∀ a x, ((![v370] : Fin 1 → IVec S16 32) a x).toNat < S8192.size a := fun v370 k0_hw39 => k0_hw39
def k0_off41 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_161 : BitVec 32 := 200#32
  let v379 : BitVec 32 := Scalar.muli v376 c200_i32_161
  let c0_i32_162 : BitVec 32 := 0#32
  let v380 : BitVec 32 := Scalar.addi v379 c0_i32_162
  let v381 : Index := Scalar.indexCast v380
  ![v381.toNat]

def k0_chk40 (v383 : IVec S16 32) : Prop :=
  (∀ a x, ((![v383] : Fin 1 → IVec S16 32) a x).toNat < S8192.size a)
theorem k0_idx40_inb : ∀ (v383 : IVec S16 32) (k0_hw40 : k0_chk40 v383), ∀ a x, ((![v383] : Fin 1 → IVec S16 32) a x).toNat < S8192.size a := fun v383 k0_hw40 => k0_hw40
def k0_off42 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_165 : BitVec 32 := 200#32
  let v388 : BitVec 32 := Scalar.muli v376 c200_i32_165
  let c16_i32_166 : BitVec 32 := 16#32
  let v389 : BitVec 32 := Scalar.addi v388 c16_i32_166
  let v390 : Index := Scalar.indexCast v389
  ![v390.toNat]

def k0_chk41 (v392 : IVec S16 32) : Prop :=
  (∀ a x, ((![v392] : Fin 1 → IVec S16 32) a x).toNat < S8192.size a)
theorem k0_idx41_inb : ∀ (v392 : IVec S16 32) (k0_hw41 : k0_chk41 v392), ∀ a x, ((![v392] : Fin 1 → IVec S16 32) a x).toNat < S8192.size a := fun v392 k0_hw41 => k0_hw41
def k0_off43 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_169 : BitVec 32 := 200#32
  let v397 : BitVec 32 := Scalar.muli v376 c200_i32_169
  let c32_i32_170 : BitVec 32 := 32#32
  let v398 : BitVec 32 := Scalar.addi v397 c32_i32_170
  let v399 : Index := Scalar.indexCast v398
  ![v399.toNat]

def k0_chk42 (v401 : IVec S16 32) : Prop :=
  (∀ a x, ((![v401] : Fin 1 → IVec S16 32) a x).toNat < S8192.size a)
theorem k0_idx42_inb : ∀ (v401 : IVec S16 32) (k0_hw42 : k0_chk42 v401), ∀ a x, ((![v401] : Fin 1 → IVec S16 32) a x).toNat < S8192.size a := fun v401 k0_hw42 => k0_hw42
def k0_off44 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_173 : BitVec 32 := 200#32
  let v406 : BitVec 32 := Scalar.muli v376 c200_i32_173
  let c48_i32_174 : BitVec 32 := 48#32
  let v407 : BitVec 32 := Scalar.addi v406 c48_i32_174
  let v408 : Index := Scalar.indexCast v407
  ![v408.toNat]

def k0_chk43 (v410 : IVec S16 32) : Prop :=
  (∀ a x, ((![v410] : Fin 1 → IVec S16 32) a x).toNat < S8192.size a)
theorem k0_idx43_inb : ∀ (v410 : IVec S16 32) (k0_hw43 : k0_chk43 v410), ∀ a x, ((![v410] : Fin 1 → IVec S16 32) a x).toNat < S8192.size a := fun v410 k0_hw43 => k0_hw43
def k0_off45 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_177 : BitVec 32 := 200#32
  let v415 : BitVec 32 := Scalar.muli v376 c200_i32_177
  let c64_i32_178 : BitVec 32 := 64#32
  let v416 : BitVec 32 := Scalar.addi v415 c64_i32_178
  let v417 : Index := Scalar.indexCast v416
  ![v417.toNat]

def k0_chk44 (v419 : IVec S16 32) : Prop :=
  (∀ a x, ((![v419] : Fin 1 → IVec S16 32) a x).toNat < S8192.size a)
theorem k0_idx44_inb : ∀ (v419 : IVec S16 32) (k0_hw44 : k0_chk44 v419), ∀ a x, ((![v419] : Fin 1 → IVec S16 32) a x).toNat < S8192.size a := fun v419 k0_hw44 => k0_hw44
def k0_off46 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_181 : BitVec 32 := 200#32
  let v424 : BitVec 32 := Scalar.muli v376 c200_i32_181
  let c80_i32_182 : BitVec 32 := 80#32
  let v425 : BitVec 32 := Scalar.addi v424 c80_i32_182
  let v426 : Index := Scalar.indexCast v425
  ![v426.toNat]

def k0_chk45 (v428 : IVec S16 32) : Prop :=
  (∀ a x, ((![v428] : Fin 1 → IVec S16 32) a x).toNat < S8192.size a)
theorem k0_idx45_inb : ∀ (v428 : IVec S16 32) (k0_hw45 : k0_chk45 v428), ∀ a x, ((![v428] : Fin 1 → IVec S16 32) a x).toNat < S8192.size a := fun v428 k0_hw45 => k0_hw45
def k0_off47 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_185 : BitVec 32 := 200#32
  let v433 : BitVec 32 := Scalar.muli v376 c200_i32_185
  let c96_i32_186 : BitVec 32 := 96#32
  let v434 : BitVec 32 := Scalar.addi v433 c96_i32_186
  let v435 : Index := Scalar.indexCast v434
  ![v435.toNat]

def k0_chk46 (v437 : IVec S16 32) : Prop :=
  (∀ a x, ((![v437] : Fin 1 → IVec S16 32) a x).toNat < S8192.size a)
theorem k0_idx46_inb : ∀ (v437 : IVec S16 32) (k0_hw46 : k0_chk46 v437), ∀ a x, ((![v437] : Fin 1 → IVec S16 32) a x).toNat < S8192.size a := fun v437 k0_hw46 => k0_hw46
def k0_off48 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_189 : BitVec 32 := 200#32
  let v442 : BitVec 32 := Scalar.muli v376 c200_i32_189
  let c112_i32_190 : BitVec 32 := 112#32
  let v443 : BitVec 32 := Scalar.addi v442 c112_i32_190
  let v444 : Index := Scalar.indexCast v443
  ![v444.toNat]

def k0_chk47 (v446 : IVec S16 32) : Prop :=
  (∀ a x, ((![v446] : Fin 1 → IVec S16 32) a x).toNat < S8192.size a)
theorem k0_idx47_inb : ∀ (v446 : IVec S16 32) (k0_hw47 : k0_chk47 v446), ∀ a x, ((![v446] : Fin 1 → IVec S16 32) a x).toNat < S8192.size a := fun v446 k0_hw47 => k0_hw47
def k0_off49 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_193 : BitVec 32 := 200#32
  let v451 : BitVec 32 := Scalar.muli v376 c200_i32_193
  let c128_i32_194 : BitVec 32 := 128#32
  let v452 : BitVec 32 := Scalar.addi v451 c128_i32_194
  let v453 : Index := Scalar.indexCast v452
  ![v453.toNat]

def k0_chk48 (v455 : IVec S16 32) : Prop :=
  (∀ a x, ((![v455] : Fin 1 → IVec S16 32) a x).toNat < S8192.size a)
theorem k0_idx48_inb : ∀ (v455 : IVec S16 32) (k0_hw48 : k0_chk48 v455), ∀ a x, ((![v455] : Fin 1 → IVec S16 32) a x).toNat < S8192.size a := fun v455 k0_hw48 => k0_hw48
def k0_off50 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_197 : BitVec 32 := 200#32
  let v460 : BitVec 32 := Scalar.muli v376 c200_i32_197
  let c144_i32_198 : BitVec 32 := 144#32
  let v461 : BitVec 32 := Scalar.addi v460 c144_i32_198
  let v462 : Index := Scalar.indexCast v461
  ![v462.toNat]

def k0_chk49 (v464 : IVec S16 32) : Prop :=
  (∀ a x, ((![v464] : Fin 1 → IVec S16 32) a x).toNat < S8192.size a)
theorem k0_idx49_inb : ∀ (v464 : IVec S16 32) (k0_hw49 : k0_chk49 v464), ∀ a x, ((![v464] : Fin 1 → IVec S16 32) a x).toNat < S8192.size a := fun v464 k0_hw49 => k0_hw49
def k0_off51 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_201 : BitVec 32 := 200#32
  let v469 : BitVec 32 := Scalar.muli v376 c200_i32_201
  let c160_i32_202 : BitVec 32 := 160#32
  let v470 : BitVec 32 := Scalar.addi v469 c160_i32_202
  let v471 : Index := Scalar.indexCast v470
  ![v471.toNat]

def k0_chk50 (v473 : IVec S16 32) : Prop :=
  (∀ a x, ((![v473] : Fin 1 → IVec S16 32) a x).toNat < S8192.size a)
theorem k0_idx50_inb : ∀ (v473 : IVec S16 32) (k0_hw50 : k0_chk50 v473), ∀ a x, ((![v473] : Fin 1 → IVec S16 32) a x).toNat < S8192.size a := fun v473 k0_hw50 => k0_hw50
def k0_off52 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_205 : BitVec 32 := 200#32
  let v478 : BitVec 32 := Scalar.muli v376 c200_i32_205
  let c176_i32_206 : BitVec 32 := 176#32
  let v479 : BitVec 32 := Scalar.addi v478 c176_i32_206
  let v480 : Index := Scalar.indexCast v479
  ![v480.toNat]

def k0_chk51 (v482 : IVec S16 32) : Prop :=
  (∀ a x, ((![v482] : Fin 1 → IVec S16 32) a x).toNat < S8192.size a)
theorem k0_idx51_inb : ∀ (v482 : IVec S16 32) (k0_hw51 : k0_chk51 v482), ∀ a x, ((![v482] : Fin 1 → IVec S16 32) a x).toNat < S8192.size a := fun v482 k0_hw51 => k0_hw51
def k0_off53 (k0_t1 : Fin k0_t1_loop.trips) : Fin 1 → Nat :=
  let c0_i32_2 : BitVec 32 := 0#32
  let c1_i32 : BitVec 32 := 1#32
  let arg9 : BitVec 32 := Scf.iv c0_i32_2 c1_i32 k0_t1
  let c4_i32_159 : BitVec 32 := 4#32
  let v375 : BitVec 32 := Scalar.muli arg9 c4_i32_159
  let c3_i32 : BitVec 32 := 3#32
  let v376 : BitVec 32 := Scalar.addi v375 c3_i32
  let c200_i32_209 : BitVec 32 := 200#32
  let v487 : BitVec 32 := Scalar.muli v376 c200_i32_209
  let c192_i32_210 : BitVec 32 := 192#32
  let v488 : BitVec 32 := Scalar.addi v487 c192_i32_210
  let v489 : Index := Scalar.indexCast v488
  ![v489.toNat]

def k0_chk52 (v491 : IVec S16 32) : Prop :=
  (∀ a x, ((![v491] : Fin 1 → IVec S16 32) a x).toNat < S8192.size a)
theorem k0_idx52_inb : ∀ (v491 : IVec S16 32) (k0_hw52 : k0_chk52 v491), ∀ a x, ((![v491] : Fin 1 → IVec S16 32) a x).toNat < S8192.size a := fun v491 k0_hw52 => k0_hw52
def k0_off54 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c64_i32 : BitVec 32 := 64#32
  let v11 : BitVec 32 := Scalar.muli v2 c64_i32
  ![v11.toNat]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S50x32 : Shape := ⟨2, ![50, 32]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x32 : Shape := ⟨3, ![4096, 200, 32]⟩
abbrev S4096x32 : Shape := ⟨2, ![4096, 32]⟩

abbrev nBuf : Space → Nat
  | .hbm => 34
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096x200, .i1⟩
  | .hbm, ⟨2, _⟩ => ⟨S50x32, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x32, .f32⟩
  | .hbm, ⟨22, _⟩ => ⟨S4096x200x32, .i1⟩
  | .hbm, ⟨23, _⟩ => ⟨S_, .f32⟩
  | .hbm, ⟨24, _⟩ => ⟨S4096x200x32, .f32⟩
  | .hbm, ⟨25, _⟩ => ⟨S4096x200x32, .f32⟩
  | .hbm, ⟨26, _⟩ => ⟨S4096x200x1, .i1⟩
  | .hbm, ⟨27, _⟩ => ⟨S_, .f32⟩
  | .hbm, ⟨28, _⟩ => ⟨S_, .f32⟩
  | .hbm, ⟨29, _⟩ => ⟨S4096x200x32, .i1⟩
  | .hbm, ⟨30, _⟩ => ⟨S4096x200x32, .f32⟩
  | .hbm, ⟨31, _⟩ => ⟨S4096x200x32, .f32⟩
  | .hbm, ⟨32, _⟩ => ⟨S_, .f32⟩
  | .hbm, ⟨33, _⟩ => ⟨S4096x32, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩

abbrev nD : Nat := 1
abbrev τ : Topo := Topo.v7x

variable {F : FTy → Type} [FloatOps F]
-- ==== Proof.Hist.lean ====
/-
  The histogram one vector subcore builds, as pure mathematics over any float model.

  A tile holds 128 rows of 200 tag ids and of 200 mask values, laid end to end. Position `q` is row `q / 200`. Scattering
  position `q` adds its mask value to the count at `id + 64 * row`. The kernel scatters the positions in ascending order,
  sixteen lanes at a time and eight at the end of each row, so the counts after any number of vectors are the fold `hist`
  at the number of positions taken.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Hist

open Cert.KernelIdeal Cert.KernelIdeal.Gen
open Idealize.ShloMosaic

variable {F : FTy → Type} [FloatOps F]

/-- One tile's counts. -/
abbrev Counts (F : FTy → Type) : Type := S8192.Idx → F .f32

/-- The counts with `v` added at position `p`. -/
def bump (g : Counts F) (p : ℕ) (v : F .f32) : Counts F :=
  fun j => if (j 0).val = p then FloatOps.idxAddf (g j) v else g j

/-- The counts after the first `q` positions, from the counts `g` at the start. -/
def hist (g : Counts F) (X : ℕ → BitVec 32) (M : ℕ → F .f32) : ℕ → Counts F
  | 0 => g
  | q + 1 => bump (hist g X M q) ((X q).toNat + 64 * (q / 200)) (M q)

/-- One step of the indexed store with addition is `bump`. -/
theorem step_eq_bump (g : Counts F) (i : S8192.Idx) (v : F .f32) :
    (fun j : S8192.Idx => if (∀ a, (j a).val = (i a).val) then Elt.idxAdd .f32 (g i) v else g j) = bump g (i 0).val v := by
  funext j
  unfold bump
  by_cases h : (j 0).val = (i 0).val
  · have hji : j = i := by
      funext a; rw [Fin.eq_zero a]; exact Fin.ext h
    subst hji
    rw [if_pos (fun _ => rfl), if_pos rfl]; rfl
  · rw [if_neg (fun h' => h (h' 0)), if_neg h]

/-- An indexed store with addition whose first `w` lanes are on and name positions `q .. q + w` takes the counts
    after `q` positions to those after `q + w`. -/
theorem storeIdx_hist (g : Counts F) (X : ℕ → BitVec 32) (M : ℕ → F .f32) (q w : ℕ) (hw : w ≤ 16)
    (idx : IVec S16 32) (v : Vec F S16 .f32) (mask : IVec S16 1)
    (h : ∀ a x, ((![idx] : Fin S8192.rank → IVec S16 32) a x).toNat < S8192.size a)
    (hmask : ∀ l : S16.Idx, mask l = 1#1 ↔ (l 0).val < w)
    (hidx : ∀ l : S16.Idx, (l 0).val < w → (idx l).toNat = (X (q + (l 0).val)).toNat + 64 * ((q + (l 0).val) / 200))
    (hv : ∀ l : S16.Idx, (l 0).val < w → v l = M (q + (l 0).val)) :
    storeIdx (F := F) (s := S8192) (e := .f32) (d := S16.size) (hist g X M q) ![idx] v mask true h = hist g X M (q + w) := by
  have key : ∀ n (hn : n ≤ 16), Fin.foldl n (fun (g' : Counts F) k =>
      let x : S16.Idx := Shape.ofLane (d := S16.size) (Fin.castLE hn k)
      if mask x = 1 then
        let i : S8192.Idx := idxAt ![idx] h x
        let y := if true then Elt.idxAdd .f32 (g' i) (v x) else v x
        fun j => if (∀ a, (j a).val = (i a).val) then y else g' j
      else g') (hist g X M q) = hist g X M (q + min n w) := by
    intro n
    induction n with
    | zero => intro _; simp
    | succ n ih =>
      intro hn
      rw [Fin.foldl_succ_last]
      have := ih (by omega)
      simp only [Fin.castLE, Fin.val_castSucc, Fin.val_last] at this ⊢
      rw [this]
      set l : S16.Idx := Shape.ofLane (d := S16.size) ⟨n, hn⟩ with hl
      have hl0 : (l 0).val = n := rfl
      by_cases hlt : n < w
      · have hm : mask l = 1 := (hmask l).2 (by rw [hl0]; exact hlt)
        rw [if_pos hm]
        simp only [↓reduceIte]
        rw [show min (n + 1) w = n + 1 by omega, show min n w = n by omega]
        rw [step_eq_bump, ← Nat.add_assoc]
        have hi : ((idxAt ![idx] h l : S8192.Idx) 0).val = (X (q + n)).toNat + 64 * ((q + n) / 200) := by
          have := hidx l (by rw [hl0]; exact hlt)
          rw [hl0] at this
          exact this
        rw [hi, hv l (by rw [hl0]; exact hlt), hl0]
        rfl
      · have hm : ¬ mask l = 1 := fun h' => hlt (by have := (hmask l).1 h'; rwa [hl0] at this)
        rw [if_neg hm, show min (n + 1) w = w by omega, show min n w = w by omega]
  have := key 16 le_rfl
  rw [Fin.foldl_eq_finRange_foldl, show min 16 w = w by omega] at this
  refine Eq.trans ?_ this
  unfold storeIdx
  congr 1
  funext g' k
  refine if_congr Iff.rfl ?_ rfl
  funext j
  by_cases hj : ∀ a, (j a).val = ((idxAt ![idx] h (Shape.ofLane k) : S8192.Idx) a).val
  · exact (if_pos hj).trans (if_pos hj).symm
  · exact (if_neg hj).trans (if_neg hj).symm

/-! ## Reading lanes -/

/-- Sixteen lanes of the tile's ids from position `q`. -/
def xvec (X : ℕ → BitVec 32) (q : ℕ) : IVec S16 32 := fun l => X (q + (l 0).val)

/-- The base of row `r` in the counts, in every lane. -/
def rowBase (r : ℕ) : IVec S16 32 := fun _ => BitVec.ofNat 32 (64 * r)

/-- An id below 64 on a row below 128 addresses a count. -/
theorem toNat_addi {X : ℕ → BitVec 32} (hX : ∀ n, (X n).toNat < 64) {q r : ℕ} (hr : r < 128) (l : S16.Idx) :
    (addi (xvec X q) (rowBase r) l).toNat = (X (q + (l 0).val)).toNat + 64 * r := by
  have h := hX (q + (l 0).val)
  show (X (q + (l 0).val) + BitVec.ofNat 32 (64 * r)).toNat = _
  rw [BitVec.toNat_add, BitVec.toNat_ofNat]
  omega

/-- The indices of a vector of positions are in range, whatever lanes are on. -/
theorem idx_lt {X : ℕ → BitVec 32} (hX : ∀ n, (X n).toNat < 64) {q r : ℕ} (hr : r < 128) :
    ∀ (a : Fin S8192.rank) (x : S16.Idx), ((![addi (xvec X q) (rowBase r)] : Fin S8192.rank → IVec S16 32) a x).toNat < S8192.size a := by
  intro a x
  have : a = 0 := Fin.eq_zero a
  subst this
  show (addi (xvec X q) (rowBase r) x).toNat < 8192
  rw [toNat_addi hX hr]
  have := hX (q + (x 0).val)
  omega

/-- The tail's mask is on in the first eight lanes. -/
theorem tail_mask (l : S16.Idx) : (k0_pay9 l = 1#1) ↔ (l 0).val < 8 := by
  have key : ∀ n : Fin 16, (k0_pay9 (fun a => ⟨n.val, by rw [Fin.eq_zero a]; exact n.isLt⟩ : S16.Idx) = 1#1) ↔ n.val < 8 := by
    decide +kernel
  have := key (l 0)
  convert this using 3
  funext a; rw [Fin.eq_zero a]

/-- The full mask is on in all sixteen. -/
theorem full_mask (l : S16.Idx) : ((fun _ => 1#1 : IVec S16 1) l = 1#1) ↔ (l 0).val < 16 :=
  ⟨fun _ => (l 0).isLt, fun _ => rfl⟩

/-- The first of a trip's four rows starts its counts at 64 times its number. -/
theorem base0 (t : Fin k0_t1_loop.trips) : k0_pay1 0#32 1#32 t = rowBase (4 * t.val) :=
  funext fun _ => (show ∀ t : Fin k0_t1_loop.trips, Scalar.muli (Scalar.addi (Scalar.muli (Scf.iv 0#32 1#32 t) 4#32) 0#32) 64#32
    = BitVec.ofNat 32 (64 * (4 * t.val)) by decide +kernel) t
/-- The second of the four. -/
theorem base1 (t : Fin k0_t1_loop.trips) : k0_pay5 (Scf.iv 0#32 1#32 t) = rowBase (4 * t.val + 1) :=
  funext fun _ => (show ∀ t : Fin k0_t1_loop.trips, Scalar.muli (Scalar.addi (Scalar.muli (Scf.iv 0#32 1#32 t) 4#32) 1#32) 64#32
    = BitVec.ofNat 32 (64 * (4 * t.val + 1)) by decide +kernel) t
/-- The third of the four. -/
theorem base2 (t : Fin k0_t1_loop.trips) : k0_pay6 (Scf.iv 0#32 1#32 t) = rowBase (4 * t.val + 2) :=
  funext fun _ => (show ∀ t : Fin k0_t1_loop.trips, Scalar.muli (Scalar.addi (Scalar.muli (Scf.iv 0#32 1#32 t) 4#32) 2#32) 64#32
    = BitVec.ofNat 32 (64 * (4 * t.val + 2)) by decide +kernel) t
/-- The fourth of the four. -/
theorem base3 (t : Fin k0_t1_loop.trips) : k0_pay7 (Scf.iv 0#32 1#32 t) = rowBase (4 * t.val + 3) :=
  funext fun _ => (show ∀ t : Fin k0_t1_loop.trips, Scalar.muli (Scalar.addi (Scalar.muli (Scf.iv 0#32 1#32 t) 4#32) 3#32) 64#32
    = BitVec.ofNat 32 (64 * (4 * t.val + 3)) by decide +kernel) t

end Cert.Proof.Hist
-- ==== Proof.Tile.lean ====
/-
  One vector subcore's task.
-/
module

public import proofs.«01_k».proof.Proof.Hist
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen Cert.Proof.Hist
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels, with the TensorCore's pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The bodies, with the pipeline's. -/
abbrev D [FloatOps F] : Defs nD τ sig (Elt F) (ΛP (F := F)) := Pipeline.defs pcfgs defs₀
/-- No loop variants. -/
abbrev 𝒱₀ : Variants := Variants.none
/-- The same, with the call's. -/
abbrev 𝒱 : Variants := 𝒱₀.lift
/-- The variant of a body. -/
abbrev v₀ : 𝒱.V := Sum.inl none

/-- The call's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The TensorCore pipeline's rounds. -/
abbrev UP : Type := URounds (GSem nD τ sig) Unit
/-- The ghost state: the handshakes', the pipeline's, the counters'. -/
abbrev UU : Type := UH × (UP × Counters)

local notation "𝕄" => MT nD τ sig (HIx 1) (Elt F) ℕ UU ℕ

/-- Where the handshakes' ghost state lies. -/
abbrev EH : Emb UH (MT nD τ sig (HIx 1) (Elt F) ℕ UU ℕ) := embL

variable [FloatOps F]

local notation "sX" => (Memref.whole Cert.KernelIdeal.cc0_scratch0 : Memref Cert.KernelIdeal.sig Kind.scVector Space.vmem Cert.KernelIdeal.S25616 EltTy.i32)
local notation "sM" => (Memref.whole Cert.KernelIdeal.cc0_scratch1 : Memref Cert.KernelIdeal.sig Kind.scVector Space.vmem Cert.KernelIdeal.S25616 EltTy.f32)
local notation "sC" => (Memref.whole Cert.KernelIdeal.cc0_scratch2 : Memref Cert.KernelIdeal.sig Kind.scVector Space.vmem Cert.KernelIdeal.S8192 EltTy.f32)

section Rules

variable (d : Dev nD) (c : Fin τ.nSC) (i : Fin τ.nSub)

/-- The scratch of ids, holding `X`. -/
abbrev xs (X : ℕ → BitVec 32) : sProp 𝕄 := (sX).view.loc (V d c i) ↦{fullShare} (fun j : S25616.Idx => X (j 0).val)
/-- The scratch of mask values, holding `f`. -/
abbrev ms (f : S25616.Idx → F .f32) : sProp 𝕄 := (sM).view.loc (V d c i) ↦{fullShare} f
/-- The scratch of counts, holding `g`. -/
abbrev cs (g : Counts F) : sProp 𝕄 := (sC).view.loc (V d c i) ↦{fullShare} g

/-- A load of sixteen ids gives those of the positions from the load's offset. -/
theorem wp_ids {α : Type} {Q : α → sProp 𝕄} {X : ℕ → BitVec 32} {off : Fin 1 → ℕ} {hoff} {hl}
    {k : Vec F S16 .i32 → Prog (TpuEff nD τ sig (Elt F) Λ₀ (.scVector c i)) α} :
    xs (F := F) d c i X ⊢ iprop((xs (F := F) d c i X -∗ wp frame (wpE (defs₀ (F := F)) 𝒱₀ (V d c i) none) Set.univ (k (xvec X (off 0))) Q)
      -∗ wp frame (wpE (defs₀ (F := F)) 𝒱₀ (V d c i) none) Set.univ
        (Prog.lift (.load sX (Rect.unit (s := S25616) off S16.size hoff).toLoadRect hl) >>= k) Q) := by
  iintro H Hk
  iapply (wp_load 𝒱₀ (V d c i) none Set.univ (m := sX) (S := Finset.univ) (Finset.subset_univ _)) $$ H
  iintro H
  have e : View.readAt (Elt F) (sX).view (Rect.unit (s := S25616) off S16.size hoff).toLoadRect (fun j : S25616.Idx => X (j 0).val) = xvec X (off 0) := by
    funext l
    rw [View.readAt_apply]
    show X _ = X _
    simp
  rw [e]
  iapply Hk
  iexact H

/-- An assumption the program states holds: it goes on. -/
theorem wp_holds {α : Type} {Q : α → sProp 𝕄} {P : Prop} {dec : Decidable P} (hP : P)
    {k : PLift P → Prog (TpuEff nD τ sig (Elt F) Λ₀ (.scVector c i)) α} :
    wp frame (wpE (defs₀ (F := F)) 𝒱₀ (V d c i) none) Set.univ (k ⟨hP⟩) Q
      ⊢ wp frame (wpE (defs₀ (F := F)) 𝒱₀ (V d c i) none) Set.univ (Prog.lift (TpuEff.assume P dec) >>= k) Q :=
  Entails.of_eq (wp_assume_of 𝒱₀ (V d c i) none Set.univ hP).symm

/-- A load of sixteen mask values and their scatter onto the counts takes the counts after `q` positions to those after
    `q + w`, `w` the lanes that are on. -/
theorem wp_scatter {α : Type} {Q : α → sProp 𝕄} {X : ℕ → BitVec 32} {M : ℕ → F .f32} {f : S25616.Idx → F .f32} {g : Counts F} {q r w : ℕ}
    {off : Fin 1 → ℕ} {hoff} {hl} {mask : IVec S16 1} {idx : IVec S16 32} {h} {hs}
    (hX : ∀ n, (X n).toNat < 64) (hf : ∀ j : S25616.Idx, (j 0).val < 25600 → f j = M (j 0).val)
    (hidx : idx = addi (xvec X (off 0)) (rowBase r))
    (hmask : ∀ l : S16.Idx, mask l = 1#1 ↔ (l 0).val < w)
    (hside : off 0 = q ∧ q + w ≤ 25600 ∧ w ≤ 16 ∧ 200 * r ≤ q ∧ q + w ≤ 200 * r + 200)
    {k : PUnit → Prog (TpuEff nD τ sig (Elt F) Λ₀ (.scVector c i)) α} :
    iprop(ms (F := F) d c i f ∗ cs d c i (hist g X M q))
      ⊢ iprop((iprop(ms (F := F) d c i f ∗ cs d c i (hist g X M (q + w)))
          -∗ wp frame (wpE (defs₀ (F := F)) 𝒱₀ (V d c i) none) Set.univ (k ⟨⟩) Q)
        -∗ wp frame (wpE (defs₀ (F := F)) 𝒱₀ (V d c i) none) Set.univ
          (Prog.lift (.load sM (Rect.unit (s := S25616) off S16.size hoff).toLoadRect hl) >>= fun v =>
            SparseCore.vectorStoreIdx (F := F) sC ![idx] v mask true h hs >>= k) Q) := by
  obtain ⟨ho, hq, hw, hr1, hr2⟩ := hside
  iintro ⟨Hm, Hc⟩ Hk
  iapply (wp_load 𝒱₀ (V d c i) none Set.univ (m := sM) (S := Finset.univ) (Finset.subset_univ _)) $$ Hm
  iintro Hm
  have hset : ((sC).access (.whole _)).set = Finset.univ := by simp
  ihave Hc := (show cs d c i (hist g X M q) ⊢ ((sC).access (.whole _)).loc (V d c i) ↦[((sC).access (.whole _)).set]{fullShare} (hist g X M q) from
    Entails.of_eq (by rw [hset])) $$ Hc
  iapply (SparseCore.wp_vectorStoreIdx 𝒱₀ (V d c i) none Set.univ (base := sC)) $$ Hc
  iintro Hc
  iapply Hk
  isplitl [Hm]; · iexact Hm
  have hv : ∀ l : S16.Idx, (l 0).val < w →
      View.readAt (Elt F) (sM).view (Rect.unit (s := S25616) off S16.size hoff).toLoadRect f l = M (q + (l 0).val) := by
    intro l hl
    rw [View.readAt_apply]
    have := hf ((sM).view.emb ((Rect.unit (s := S25616) off S16.size hoff).toLoadRect.idx l))
    simp [ho] at this ⊢
    apply this
    omega
  have key : ((sC).access (.whole _)).write (Elt F) (hist g X M q) (storeIdx (F := F) (d := S16.size) (((sC).access (.whole _)).read (Elt F) (hist g X M q)) ![idx]
      (View.readAt (Elt F) (sM).view (Rect.unit (s := S25616) off S16.size hoff).toLoadRect f) mask true h) Finset.univ = hist g X M (q + w) := by
    refine Eq.trans ?_ (storeIdx_hist g X M q w hw idx _ mask h hmask ?_ hv)
    · simp
    · intro l hl
      rw [hidx, toNat_addi hX (by omega), ho]
      congr 2
      omega
  ihave Hc := (show (((sC).access (.whole _)).loc (V d c i) ↦[((sC).access (.whole _)).set]{fullShare} _ : sProp 𝕄) ⊢ cs d c i (hist g X M (q + w)) from
    Entails.of_eq (by rw [hset, ← key])) $$ Hc
  iexact Hc
end Rules

/-- An offset with a closed form is that form. -/
theorem off_eq (off : Fin 1 → ℕ) [h : ClosedOff off] {q : ℕ} (e : h.form 0 = q) : off 0 = q :=
  (congrFun h.eq 0).trans e

/-- Indices that are ids plus a row's base are in range. -/
theorem chk_ok {X : ℕ → BitVec 32} (hX : ∀ n, (X n).toNat < 64) {q r : ℕ} {idx : IVec S16 32}
    (e : idx = addi (xvec X q) (rowBase r)) (hr : r < 128) :
    ∀ (a : Fin S8192.rank) (x : S16.Idx), ((![idx] : Fin S8192.rank → IVec S16 32) a x).toNat < S8192.size a := by
  subst e
  exact idx_lt hX hr

section Body

variable (d : Dev nD) (L : grid0.Coords)

/-- The SparseCore of a grid point. -/
abbrev cV (L : grid0.Coords) : Fin τ.nSC := (L 0).castLE hcore0
/-- The tile of a grid point. -/
abbrev jV (L : grid0.Coords) : Fin τ.nSub := (L 1).castLE hsub0

set_option maxHeartbeats 800000 in
/-- One trip of the loop takes four rows: the counts go from those after `800 * t` positions to those after `800 * (t + 1)`. -/
theorem trip (arg2 : Memref sig .scVector .hbm S819200 .i32) (harg2 : arg2.IsWhole) (arg3 : Memref sig .scVector .hbm S819200 .f32) (harg3 : arg3.IsWhole)
    (arg4 : Memref sig .scVector .hbm S8192 .f32) (harg4 : arg4.IsWhole) (arg5 : Memref sig .scVector .hbm S262144 .f32) (harg5 : arg5.IsWhole)
    (r0 r1 r2 r3 : DmaSems sig S_) {X : ℕ → BitVec 32} {M : ℕ → F .f32} {f : S25616.Idx → F .f32} {g : Counts F}
    (hX : ∀ n, (X n).toNat < 64) (hf : ∀ j : S25616.Idx, (j 0).val < 25600 → f j = M (j 0).val) (t : Fin k0_t1_loop.trips) :
    iprop(xs (F := F) d (cV L) (jV L) X ∗ ms (F := F) d (cV L) (jV L) f ∗ cs d (cV L) (jV L) (hist g X M (800 * t.val)))
      ⊢ wp frame (wpE (defs₀ (F := F)) 𝒱₀ (V d (cV L) (jV L)) none) Set.univ
          (k0_t1_body (F := F) L arg2 harg2 arg3 harg3 arg4 harg4 arg5 harg5 sX (Memref.isWhole_whole _) sM (Memref.isWhole_whole _) sC (Memref.isWhole_whole _)
            r0 r1 r2 r3 t ())
          fun _ => iprop(xs (F := F) d (cV L) (jV L) X ∗ ms (F := F) d (cV L) (jV L) f ∗ cs d (cV L) (jV L) (hist g X M (800 * (t.val + 1)))) := by
  have ht : t.val < 32 := t.isLt
  iintro H
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  simp only [k0_part1_skel, k0_part2_skel, k0_part3_skel, k0_part4_skel, k0_part5_skel, k0_part6_skel, k0_part7_skel, k0_part8_skel,
    k0_part9_skel, k0_part10_skel, k0_part11_skel, k0_part12_skel, k0_part13_skel, k0_pay2, k0_pay3, k0_pay4, bind_assoc, pure_bind]
  icases H with ⟨Hx, H⟩
  -- four rows, each twelve full vectors and the masked tail
  iterate 4 (
    iterate 12 (
      iapply (wp_ids d (cV L) (jV L)) $$ Hx; iintro Hx
      iapply (wp_holds d (cV L) (jV L) (hP := ?hP))
      case hP =>
        apply chk_ok hX
        · refine congrArg (addi _) ?_
          with_reducible first | exact base0 t | exact base1 t | exact base2 t | exact base3 t
        · omega
      iapply (wp_scatter d (cV L) (jV L) hX hf (hidx := ?hi) full_mask (hside := ?hs)) $$ H
      case hi =>
        refine congrArg (addi _) ?_
        with_reducible first | exact base0 t | exact base1 t | exact base2 t | exact base3 t
      case hs =>
        refine ⟨off_eq _ ?_, by omega, by omega, by omega, by omega⟩
        first
        | (show 800 * t.val = _; omega)
        | (show 800 * t.val + _ = _; omega)
      iintro H)
    iapply (wp_ids d (cV L) (jV L)) $$ Hx; iintro Hx
    iapply (wp_holds d (cV L) (jV L) (hP := ?hP))
    case hP =>
      apply chk_ok hX
      · refine congrArg (addi _) ?_
        with_reducible first | exact base0 t | exact base1 t | exact base2 t | exact base3 t
      · omega
    iapply (wp_scatter d (cV L) (jV L) hX hf (hidx := ?hi) tail_mask (hside := ?hs)) $$ H
    case hi =>
      refine congrArg (addi _) ?_
      with_reducible first | exact base0 t | exact base1 t | exact base2 t | exact base3 t
    case hs =>
      refine ⟨off_eq _ ?_, by omega, by omega, by omega, by omega⟩
      show 800 * t.val + _ = _
      omega
    iintro H)
  rw [wp_pure]
  imodintro
  isplitl [Hx]; · iexact Hx
  iexact H

end Body

end Cert.Proof.Tile
-- ==== Proof.TileBody.lean ====
/-
  One vector subcore's whole task: the three copies in, the loop over the rows, the copy out.
-/
module

public import proofs.«01_k».proof.Proof.Tile

@[expose] public section

noncomputable section

namespace Cert.Proof.Tile

open Cert.KernelIdeal Cert.KernelIdeal.Gen Cert.Proof.Hist
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S819200 EltTy.i32)
local notation "mV" => (Memref.whole Cert.KernelIdeal.main_v2_scv : Memref Cert.KernelIdeal.sig Kind.scVector Space.hbm Cert.KernelIdeal.S819200 EltTy.f32)
local notation "zV" => (Memref.whole Cert.KernelIdeal.main_v3_scv : Memref Cert.KernelIdeal.sig Kind.scVector Space.hbm Cert.KernelIdeal.S8192 EltTy.f32)
local notation "oV" => (Memref.whole Cert.KernelIdeal.main_v5_scv : Memref Cert.KernelIdeal.sig Kind.scVector Space.hbm Cert.KernelIdeal.S262144 EltTy.f32)
local notation "sX" => (Memref.whole Cert.KernelIdeal.cc0_scratch0 : Memref Cert.KernelIdeal.sig Kind.scVector Space.vmem Cert.KernelIdeal.S25616 EltTy.i32)
local notation "sM" => (Memref.whole Cert.KernelIdeal.cc0_scratch1 : Memref Cert.KernelIdeal.sig Kind.scVector Space.vmem Cert.KernelIdeal.S25616 EltTy.f32)
local notation "sC" => (Memref.whole Cert.KernelIdeal.cc0_scratch2 : Memref Cert.KernelIdeal.sig Kind.scVector Space.vmem Cert.KernelIdeal.S8192 EltTy.f32)

/-! ## The arrays and their thirty-two pieces -/

/-- The flat ids, the flat mask values, the zeros and the counts, as locations of device `d`. -/
abbrev xLoc (d : Dev nD) : Loc nD τ sig := (SparseCore.T d).loc main_v0
/-- Where the mask values lie. -/
abbrev mLoc (d : Dev nD) : Loc nD τ sig := (SparseCore.T d).loc main_v2
/-- Where the zeros lie. -/
abbrev zLoc (d : Dev nD) : Loc nD τ sig := (SparseCore.T d).loc main_v3
/-- Where the counts lie. -/
abbrev oLoc (d : Dev nD) : Loc nD τ sig := (SparseCore.T d).loc main_v5

/-- The ids split in 32. -/
theorem hdivX : 32 ∣ S819200.size 0 := ⟨25600, rfl⟩
/-- The counts split in 32. -/
theorem hdivO : 32 ∣ S262144.size 0 := ⟨8192, rfl⟩
/-- The positions of the ids and mask values of worker `w`. -/
abbrev setX (w : Fin 32) : Finset S819200.Idx := (Rect.part (s := S819200) (a₀ := 0) hdivX w).set
/-- The positions of the counts of worker `w`. -/
abbrev setO (w : Fin 32) : Finset S262144.Idx := (Rect.part (s := S262144) (a₀ := 0) hdivO w).set

/-- The worker a subcore is. -/
abbrev wid (L : grid0.Coords) : Fin 32 :=
  ⟨2 * (L 1).val + (L 0).val, by have h0 : (L 0).val < 2 := (L 0).isLt; have h1 : (L 1).val < 16 := (L 1).isLt; omega⟩

/-- The part of the ids a tile copies, as the program slices it. -/
abbrev recX (L : grid0.Coords) : Rect S819200 := Rect.unit (s := S819200) (k0_off1 L) S25600.size (k0_off1_inb L)
/-- The part of the counts a tile writes, as the program slices it. -/
abbrev recO (L : grid0.Coords) : Rect S262144 := Rect.unit (s := S262144) (k0_off54 L) S8192.size (k0_off54_inb L)
/-- The tile's slice of the ids. -/
abbrev xK (L : grid0.Coords) : Memref sig .scVector .hbm S25600 .i32 := (xV).slice (recX L) (fun _ => rfl)
/-- The tile's slice of the mask values. -/
abbrev mK (L : grid0.Coords) : Memref sig .scVector .hbm S25600 .f32 := (mV).slice (recX L) (fun _ => rfl)
/-- The tile's slice of the counts. -/
abbrev oK (L : grid0.Coords) : Memref sig .scVector .hbm S8192 .f32 := (oV).slice (recO L) (fun _ => rfl)

/-- The slice of the ids is the worker's thirty-second part. -/
theorem recX_eq (L : grid0.Coords) : recX L = Rect.part (s := S819200) (a₀ := 0) hdivX (wid L) := by
  unfold recX Rect.part Rect.block
  congr 1 <;> funext a
  · rw [k0_off1_eq]
    match a with
    | 0 => simp [Shape.partIx, Shape.partSize]; omega
  · match a with
    | 0 => simp [Shape.partSize]
/-- The slice of the counts is the worker's thirty-second part. -/
theorem recO_eq (L : grid0.Coords) : recO L = Rect.part (s := S262144) (a₀ := 0) hdivO (wid L) := by
  unfold recO Rect.part Rect.block
  congr 1 <;> funext a
  · rw [k0_off54_eq]
    match a with
    | 0 => simp [Shape.partIx, Shape.partSize]; omega
  · match a with
    | 0 => simp [Shape.partSize]

/-- Its positions are the worker's. -/
theorem set_xK (L : grid0.Coords) : (xK L).view.set = setX (wid L) := by
  show ((View.whole (main_v0_scv : Ref sig .scVector)).slice (recX L)).set = _
  rw [View.set_slice, recX_eq]; exact Finset.map_refl
/-- The mask values' slice has the same positions. -/
theorem set_mK (L : grid0.Coords) : (mK L).view.set = setX (wid L) := by
  show ((View.whole (main_v2_scv : Ref sig .scVector)).slice (recX L)).set = _
  rw [View.set_slice, recX_eq]; exact Finset.map_refl
/-- The counts' slice has the worker's positions. -/
theorem set_oK (L : grid0.Coords) : (oK L).view.set = setO (wid L) := by
  show ((View.whole (main_v5_scv : Ref sig .scVector)).slice (recO L)).set = _
  rw [View.set_slice, recO_eq]; exact Finset.map_refl

section Pts
variable (d : Dev nD) (L : grid0.Coords)

/-- Holding the slice of the ids is holding the worker's positions. -/
theorem pts_xK (f : Buf (Elt F) (xLoc d)) :
    ((xK L).view.loc (V d (cV L) (jV L)) ↦[(xK L).view.set]{fullShare} f : sProp 𝕄) = xLoc d ↦[setX (wid L)]{fullShare} f := by
  rw [set_xK]
/-- The same of the mask values. -/
theorem pts_mK (f : Buf (Elt F) (mLoc d)) :
    ((mK L).view.loc (V d (cV L) (jV L)) ↦[(mK L).view.set]{fullShare} f : sProp 𝕄) = mLoc d ↦[setX (wid L)]{fullShare} f := by
  rw [set_mK]
/-- The same of the counts. -/
theorem pts_oK (f : Buf (Elt F) (oLoc d)) :
    ((oK L).view.loc (V d (cV L) (jV L)) ↦[(oK L).view.set]{fullShare} f : sProp 𝕄) = oLoc d ↦[setO (wid L)]{fullShare} f := by
  rw [set_oK]

/-- The four cells the copies signal. -/
abbrev cell0 (d : Dev nD) (c : Fin τ.nSC) (i : Fin τ.nSub) : GSem nD τ sig := (V d c i, .dma cc0_scoped0.sem)
/-- The semaphore of the second copy. -/
abbrev cell1 (d : Dev nD) (c : Fin τ.nSC) (i : Fin τ.nSub) : GSem nD τ sig := (V d c i, .dma cc0_scoped1.sem)
/-- The semaphore of the third copy. -/
abbrev cell2 (d : Dev nD) (c : Fin τ.nSC) (i : Fin τ.nSub) : GSem nD τ sig := (V d c i, .dma cc0_scoped2.sem)
/-- The semaphore of the copy out. -/
abbrev cell3 (d : Dev nD) (c : Fin τ.nSC) (i : Fin τ.nSub) : GSem nD τ sig := (V d c i, .dma cc0_scoped3.sem)

/-- The tile's semaphores at zero, one by one. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

/-- The subcore's own buffers are the three scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

end Pts

/-! ## The contents -/

/-- The ids of worker `w` by position; zero beyond them. -/
def idsOf (XB : S819200.Idx → BitVec 32) (w : Fin 32) (q : ℕ) : BitVec 32 :=
  if h : q < 25600 then XB (fun | 0 => ⟨25600 * w.val + q, by show _ < 819200; omega⟩) else 0#32
/-- The mask values of worker `w` by position. -/
def maskOf (MB : S819200.Idx → F .f32) (w : Fin 32) (q : ℕ) : F .f32 :=
  MB (fun | 0 => ⟨min (25600 * w.val + q) 819199, by show _ < 819200; omega⟩)

variable [FloatOps F]

/-- The counts of worker `w`, from `ZB`. -/
def cntOf (XB : S819200.Idx → BitVec 32) (MB : S819200.Idx → F .f32) (ZB : Counts F) (w : Fin 32) : Counts F :=
  hist ZB (idsOf XB w) (maskOf MB w) 25600
/-- All the counts: those of worker `w` from position `8192 * w` on. -/
def cntArr (XB : S819200.Idx → BitVec 32) (MB : S819200.Idx → F .f32) (ZB : Counts F) : S262144.Idx → F .f32 := fun j =>
  cntOf XB MB ZB ⟨(j 0).val / 8192, by have : (j 0).val < 262144 := (j 0).isLt; omega⟩ (fun | 0 => ⟨(j 0).val % 8192, by show _ < 8192; omega⟩)

/-- What worker `w` is handed and hands back: its ids, its mask values, a read share of the zeros, its counts. -/
abbrev piece (d : Dev nD) (w : Fin 32) (qz : PosShare TreeShare) (XB : S819200.Idx → BitVec 32) (MB : S819200.Idx → F .f32) (ZB : Counts F)
    (OB : S262144.Idx → F .f32) : sProp 𝕄 :=
  iprop((xLoc d ↦[setX w]{fullShare} XB) ∗ (mLoc d ↦[setX w]{fullShare} MB) ∗ (zLoc d ↦{qz} ZB) ∗ (oLoc d ↦[setO w]{fullShare} OB))

/-- Reading the whole scratch of ids gives its contents. -/
theorem read_sX (g : S25616.Idx → BitVec 32) : (sX).view.read (Elt F) g = g := rfl
/-- Reading the whole scratch of mask values gives its contents. -/
theorem read_sM (g : S25616.Idx → F .f32) : (sM).view.read (Elt F) g = g := rfl

/-- The ids' scratch after the fetch and the store of zeros past it. -/
theorem ids_writes (L : grid0.Coords) (XB : S819200.Idx → BitVec 32) (f : S25616.Idx → BitVec 32)
    {l} (hl : l = [⟨Rect.unit (s := S25616) ![25600] S16.size inb_S25616_S16_25600, k0_pay8⟩,
      ⟨Rect.unit (s := S25616) ![0] S25600.size inb_S25616_S25600_0, View.read (Elt F) (xK L).view XB⟩]) :
    (sX).view.writes (Elt F) f l = fun j : S25616.Idx => idsOf XB (wid L) (j 0).val := by
  subst hl
  funext j
  have hj : (j 0).val < 25616 := (j 0).isLt
  refine (congrFun (read_sX _) j).symm.trans ?_
  by_cases h : (j 0).val < 25600
  · rw [View.read_writes_cons_miss_of_axis _ _ _ _ _ 0 25600 16 rfl rfl rfl (.inl h),
      View.read_writes_cons_hit_of_coords _ _ _ _ _ ((fun | 0 => ⟨(j 0).val, h⟩) : S25600.Idx) j ?_]
    rotate_left
    · intro a
      match a with
      | 0 => show (j 0).val = 0 + 1 * (j 0).val; omega
    show XB _ = _
    rw [idsOf, dif_pos h]
    congr 1
    funext a
    match a with
    | 0 =>
      apply Fin.ext
      show k0_off1 L 0 + 1 * (j 0).val = 25600 * (2 * (L 1).val + (L 0).val) + (j 0).val
      rw [k0_off1_eq]
      show 51200 * (L 1).val + 25600 * (L 0).val + 1 * (j 0).val = _
      omega
  · rw [View.read_writes_cons_hit_of_coords _ _ _ _ _ ((fun | 0 => ⟨(j 0).val - 25600, by show _ < 16; omega⟩) : S16.Idx) j ?_,
      idsOf, dif_neg h]
    · rfl
    intro a
    match a with
    | 0 => show (j 0).val = 25600 + 1 * ((j 0).val - 25600); omega

/-- The mask values' scratch after the fetch, at the positions fetched. -/
theorem mask_writes (L : grid0.Coords) (MB : S819200.Idx → F .f32) (f : S25616.Idx → F .f32) (j : S25616.Idx) (h : (j 0).val < 25600) :
    (sM).view.writes (Elt F) f [⟨Rect.unit (s := S25616) ![0] S25600.size inb_S25616_S25600_0, View.read (Elt F) (mK L).view MB⟩] j
      = maskOf MB (wid L) (j 0).val := by
  refine (congrFun (read_sM _) j).symm.trans ?_
  rw [View.read_writes_cons_hit_of_coords _ _ _ _ _ ((fun | 0 => ⟨(j 0).val, h⟩) : S25600.Idx) j ?_]
  rotate_left
  · intro a
    match a with
    | 0 => show (j 0).val = 0 + 1 * (j 0).val; omega
  show MB _ = _
  rw [maskOf]
  congr 1
  funext a
  match a with
  | 0 =>
    apply Fin.ext
    show k0_off1 L 0 + 1 * (j 0).val = min (25600 * (2 * (L 1).val + (L 0).val) + (j 0).val) 819199
    have h1 : (L 1).val < 16 := (L 1).isLt
    have h0 : (L 0).val < 2 := (L 0).isLt
    rw [k0_off1_eq]
    show 51200 * (L 1).val + 25600 * (L 0).val + 1 * (j 0).val = _
    omega

/-- The counts at a position of worker `w`. -/
theorem cntArr_at (XB : S819200.Idx → BitVec 32) (MB : S819200.Idx → F .f32) (ZB : Counts F) (j : S262144.Idx) (w : Fin 32) (y : S8192.Idx)
    (e : (j 0).val = 8192 * w.val + (y 0).val) : cntArr XB MB ZB j = cntOf XB MB ZB w y := by
  have hy : (y 0).val < 8192 := (y 0).isLt
  unfold cntArr
  congr 1
  · apply Fin.ext
    show (j 0).val / 8192 = w.val
    omega
  · funext a
    match a with
    | 0 =>
      apply Fin.ext
      show (j 0).val % 8192 = (y 0).val
      omega

/-- A write of a whole payload through a view, at a place the view holds, is the payload there. -/
theorem writes_at {κ : Kind} {sp : Space} {s : Shape} (v : View sig κ sp s .f32) (f : v.ty.Contents (Elt F)) (w : s.Idx → F .f32)
    (j : v.ty.Idx) (hj : j ∈ v.set) :
    ∃ y, v.emb y = j ∧ v.writes (Elt F) f [⟨Rect.whole s, w⟩] j = _root_.cast (congrArg (Elt F) v.elt_eq.symm) (w y) := by
  obtain ⟨y, -, rfl⟩ := Finset.mem_map.mp hj
  refine ⟨y, rfl, ?_⟩
  have h : v.read (Elt F) (v.writes (Elt F) f [⟨Rect.whole s, w⟩]) y = w y := by
    rw [View.read_writes_cons_hit_of_coords _ _ _ _ _ y y (fun a => by simp [Rect.whole])]
  rw [← h]
  simp [View.read]

/-- The counts written out, at the worker's positions. -/
theorem out_write (L : grid0.Coords) (XB : S819200.Idx → BitVec 32) (MB : S819200.Idx → F .f32) (ZB : Counts F) (OB : S262144.Idx → F .f32)
    (j : S262144.Idx) (hj : j ∈ (oK L).view.set) :
    (oK L).view.writes (Elt F) OB [⟨Rect.whole S8192, cntOf XB MB ZB (wid L)⟩] j = cntArr XB MB ZB j := by
  obtain ⟨y, rfl, h⟩ := writes_at (oK L).view OB (cntOf XB MB ZB (wid L)) j hj
  refine h.trans (Eq.symm ?_)
  refine cntArr_at XB MB ZB _ (wid L) y ?_
  show k0_off54 L 0 + 1 * (y 0).val = 8192 * (2 * (L 1).val + (L 0).val) + (y 0).val
  rw [k0_off54_eq]
  show 16384 * (L 1).val + 8192 * (L 0).val + 1 * (y 0).val = _
  omega

/-- Every id by position is below 64. -/
theorem ids_lt {XB : S819200.Idx → BitVec 32} (hXB : ∀ j, (XB j).toNat < 64) (w : Fin 32) (q : ℕ) : (idsOf XB w q).toNat < 64 := by
  rw [idsOf]
  split
  · exact hXB _
  · decide

section Body
variable (d : Dev nD) (L : grid0.Coords)

/-- The loop's invariant: the ids and the mask values as fetched, the counts after the rows taken. -/
def inv (X : ℕ → BitVec 32) (M : ℕ → F .f32) (f : S25616.Idx → F .f32) (g : Counts F) (t : ℕ) (_ : PUnit) : sProp 𝕄 :=
  iprop(xs (F := F) d (cV L) (jV L) X ∗ ms (F := F) d (cV L) (jV L) f ∗ cs d (cV L) (jV L) (hist g X M (800 * t)))

/-- The mask values' scratch as fetched, at some contents that are the worker's mask values where fetched. -/
theorem mask_held (MB : S819200.Idx → F .f32) {f : S25616.Idx → F .f32}
    {l} (hl : l = [⟨Rect.unit (s := S25616) ![0] S25600.size inb_S25616_S25600_0, View.read (Elt F) (mK L).view MB⟩]) :
    ((sM).view.loc (V d (cV L) (jV L)) ↦{fullShare} (sM).view.writes (Elt F) f l : sProp 𝕄)
      ⊢ iprop(∃ fm : S25616.Idx → F .f32, ⌜∀ j : S25616.Idx, (j 0).val < 25600 → fm j = maskOf MB (wid L) (j 0).val⌝ ∗ ms (F := F) d (cV L) (jV L) fm) := by
  subst hl
  iintro H
  iexists _
  isplitr
  swap; · iexact H
  ipureintro
  exact fun j h => mask_writes L MB f j h

/-- The counts' scratch after the zeros' copy. -/
theorem zeros_held (ZB : Counts F) {f w : S8192.Idx → F .f32} (hw : w = ZB) :
    ((sC).view.loc (V d (cV L) (jV L)) ↦{fullShare} View.write (Elt F) (sC).view f w Finset.univ : sProp 𝕄) ⊢ cs d (cV L) (jV L) ZB := by
  subst hw
  have hz : View.write (Elt F) (sC).view f w Finset.univ = w := by simp
  rw [hz]

/-- The worker's counts in the array of all of them, as written out. -/
theorem out_held (XB : S819200.Idx → BitVec 32) (MB : S819200.Idx → F .f32) (ZB : Counts F) {OB : S262144.Idx → F .f32}
    {l} (hl : l = [⟨Rect.whole S8192, cntOf XB MB ZB (wid L)⟩]) :
    ((oK L).view.loc (V d (cV L) (jV L)) ↦[(oK L).view.set]{fullShare} (oK L).view.writes (Elt F) OB l : sProp 𝕄)
      ⊢ oLoc d ↦[setO (wid L)]{fullShare} cntArr XB MB ZB := by
  subst hl
  rw [← pts_oK d L]
  exact Entails.of_eq (pointsTo_congr (out_write L XB MB ZB OB))

/-- The task on a vector subcore: from the worker's ids, mask values and counts' place to its counts there. -/
theorem tile_body [∀ e, Nonempty (Elt F e)] (XB : S819200.Idx → BitVec 32) (MB : S819200.Idx → F .f32) (ZB : Counts F) (OB : S262144.Idx → F .f32) (qz : PosShare TreeShare)
    (hXB : ∀ j, (XB j).toNat < 64)
    (hF : (K (F := F)).Facts) (O : CellTallies nD τ sig (HIx 1)) (W : Waits sig (HIx 1)) (hO : ∀ g, O g none = 0) :
    iprop(levAts (K (F := F)).L (K (F := F)).lev ∗ emp
        ∗ piece d (wid L) qz XB MB ZB OB
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_hist L xV (Memref.isWhole_whole _) mV (Memref.isWhole_whole _) zV (Memref.isWhole_whole _) oV (Memref.isWhole_whole _)
            sX (Memref.isWhole_whole _) sM (Memref.isWhole_whole _) sC (Memref.isWhole_whole _) cc0_scoped0 cc0_scoped1 cc0_scoped2 cc0_scoped3)
          fun _ => iprop(piece d (wid L) qz XB MB ZB (cntArr XB MB ZB)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hm, Hz, Ho⟩, ⟨⟨%f0, H0⟩, ⟨%f1, H1⟩, ⟨%f2, H2⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (pts_xK (F := F) d L _).symm) $$ Hx
  ihave Hm := (Entails.of_eq (pts_mK (F := F) d L _).symm) $$ Hm
  ihave Ho := (Entails.of_eq (pts_oK (F := F) d L _).symm) $$ Ho
  ihave Hz := (show (zLoc d ↦{qz} ZB : sProp 𝕄) ⊢ (zV).view.loc (V d (cV L) (jV L)) ↦{qz} ZB from Entails.of_eq rfl) $$ Hz
  ihave H0 := (show ((V d (cV L) (jV L)).loc cc0_scratch0 ↦{fullShare} f0 : sProp 𝕄) ⊢ (sX).view.loc (V d (cV L) (jV L)) ↦{fullShare} f0 from Entails.of_eq rfl) $$ H0
  ihave H1 := (show ((V d (cV L) (jV L)).loc cc0_scratch1 ↦{fullShare} f1 : sProp 𝕄) ⊢ (sM).view.loc (V d (cV L) (jV L)) ↦{fullShare} f1 from Entails.of_eq rfl) $$ H1
  ihave H2 := (show ((V d (cV L) (jV L)).loc cc0_scratch2 ↦{fullShare} f2 : sProp 𝕄) ⊢ (sC).view.loc (V d (cV L) (jV L)) ↦{fullShare} f2 from Entails.of_eq rfl) $$ H2
  sl_unfold [cc0_hist, k0_part14]
  sl_exec (disch := exact View.amount_pos _ _ (show 0 < S25600.numel by decide))
  ihave H0 := (Entails.of_eq (congrArg (fun g => ((sX).view.loc (V d (cV L) (jV L)) ↦{fullShare} g : sProp 𝕄)) (ids_writes L XB _ (hl := ?hl)))) $$ H0
  case hl => rfl
  ihave H1 := (mask_held d L MB (hl := ?hl)) $$ H1
  case hl => rfl
  icases H1 with ⟨%fm, %hM, H1⟩
  ihave H2 := (zeros_held d L ZB (hw := ?hw)) $$ H2
  case hw => rfl
  sl_for (inv d L (idsOf XB (wid L)) (maskOf MB (wid L)) fm ZB) $$ [H0 H1 H2]
  case region =>
    intro k acc
    cases acc
    have h := trip d L xV (Memref.isWhole_whole _) mV (Memref.isWhole_whole _) zV (Memref.isWhole_whole _) oV (Memref.isWhole_whole _)
      cc0_scoped0 cc0_scoped1 cc0_scoped2 cc0_scoped3 (g := ZB) (ids_lt hXB (wid L)) hM k
    unfold inv tile_body.sl.prog.body_1
    iintro H
    iapply h
    iexact H
  · unfold inv
    isplitl [H0]; · iexact H0
    isplitl [H1]; · iexact H1
    iexact H2
  iintro %_ HI
  unfold inv
  icases HI with ⟨H0, H1, H2⟩
  sl_exec (disch := exact View.amount_pos _ _ (show 0 < S8192.numel by decide))
  ihave Ho := (out_held d L XB MB ZB (hl := ?hl)) $$ Ho
  case hl => rfl
  sl_step
  isplitl [Hx Hm Hz Ho]
  · isplitl [Hx]; · iapply (Entails.of_eq (pts_xK (F := F) d L _)); iexact Hx
    isplitl [Hm]; · iapply (Entails.of_eq (pts_mK (F := F) d L _)); iexact Hm
    isplitl [Hz]; · iexact Hz
    iexact Ho
  isplitl [H0 H1 H2 Hbufs]
  · isplitl [H0]; · iexists _; iexact H0
    isplitl [H1]; · iexists _; iexact H1
    isplitl [H2]; · iexists _; iexact H2
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p _
  rcases p.2 with _ | q
  · exact .inr (.inl rfl)
  · exact .inr (.inr (congrArg some (Subsingleton.elim q 0)))

end Body

end Cert.Proof.Tile
-- ==== Proof.Launch.lean ====
/-
  What the SparseCore call's handshakes carry: each subcore's piece of the ids, the mask values, the zeros and the counts.
-/
module

public import proofs.«01_k».proof.Proof.TileBody

@[expose] public section

noncomputable section

namespace Cert.Proof.Launch

open Cert.KernelIdeal Cert.KernelIdeal.Gen Cert.Proof.Tile
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type} [FloatOps F]

local notation "𝕄" => MT nD τ sig (HIx 1) (Elt F) ℕ UU ℕ

/-! ## The pieces -/

/-- The worker that subcore `i` of core `c` is. -/
abbrev wk (c : Fin 2) (i : Fin 16) : Fin 32 := ⟨2 * i.val + c.val, by omega⟩

/-- Cores and subcores are the thirty-two workers. -/
def workers : Fin 2 × Fin 16 ≃ Fin 32 where
  toFun p := wk p.1 p.2
  invFun w := (⟨w.val % 2, by omega⟩, ⟨w.val / 2, by omega⟩)
  left_inv p := by ext <;> simp <;> omega
  right_inv w := by ext; simp; omega

/-- The call runs on two SparseCores. -/
theorem nCore_zero : (K (F := F)).nCore 0 = 2 := rfl
/-- On each it runs on sixteen tiles. -/
theorem nSub_zero : (K (F := F)).nSub 0 = 16 := rfl

variable (XB : (d : Dev nD) → Buf (Elt F) (xLoc d)) (MB : (d : Dev nD) → Buf (Elt F) (mLoc d)) (ZB : (d : Dev nD) → Buf (Elt F) (zLoc d))
  (OB : (d : Dev nD) → Buf (Elt F) (oLoc d))

/-- Worker `w`'s piece, the counts at `f`. -/
abbrev pc (d : Dev nD) (f : Buf (Elt F) (oLoc d)) (w : Fin 32) : sProp 𝕄 := piece d w (shareTok fullShare 32 w) (XB d) (MB d) (ZB d) f

/-- What the call leaves in the counts. -/
abbrev CB (d : Dev nD) : Buf (Elt F) (oLoc d) := cntArr (XB d) (MB d) (ZB d)

/-- Each core is handed its sixteen subcores' pieces and each subcore its own; they come back with the counts computed. -/
def P : (K (F := F)).Pay (nD := nD) (Val := Elt F) (Name := ℕ) (U := UU) where
  st := fun q d c => match q with | 0 => bigSep Finset.univ fun i : Fin 16 => pc XB MB ZB d (OB d) (wk (Fin.cast nCore_zero c) i)
  dn := fun q d c => match q with | 0 => bigSep Finset.univ fun i : Fin 16 => pc XB MB ZB d (CB XB MB ZB d) (wk (Fin.cast nCore_zero c) i)
  go := fun q d c i => match q with | 0 => pc XB MB ZB d (OB d) (wk (Fin.cast nCore_zero c) (Fin.cast nSub_zero i))
  td := fun q d c i => match q with | 0 => pc XB MB ZB d (CB XB MB ZB d) (wk (Fin.cast nCore_zero c) (Fin.cast nSub_zero i))
  x := fun _ _ => iprop(emp)

/-- What the handshakes carry can be stored. -/
instance P_storable : (P XB MB ZB OB).IsStorable where
  st q d c := match q with
    | 0 => (inferInstance : BI.Storable (upEmb : UEmb _ 𝕄) (bigSep Finset.univ fun i : Fin 16 => pc XB MB ZB d (OB d) (wk (Fin.cast nCore_zero c) i)))
  dn q d c := match q with
    | 0 => (inferInstance : BI.Storable (upEmb : UEmb _ 𝕄) (bigSep Finset.univ fun i : Fin 16 => pc XB MB ZB d (CB XB MB ZB d) (wk (Fin.cast nCore_zero c) i)))
  go q d c i := match q with
    | 0 => (inferInstance : BI.Storable (upEmb : UEmb _ 𝕄) (pc XB MB ZB d (OB d) (wk (Fin.cast nCore_zero c) (Fin.cast nSub_zero i))))
  td q d c i := match q with
    | 0 => (inferInstance : BI.Storable (upEmb : UEmb _ 𝕄) (pc XB MB ZB d (CB XB MB ZB d) (wk (Fin.cast nCore_zero c) (Fin.cast nSub_zero i))))

/-- A core's pieces are its subcores'. -/
theorem vecSplit : (K (F := F)).VecSplit' (P XB MB ZB OB) 0 := by
  intro d c
  show (bigSep Finset.univ fun i : Fin 16 => pc XB MB ZB d (OB d) (wk (Fin.cast nCore_zero c) i)) ⊢ |={Set.univ}=> iprop(
      (bigSep Finset.univ fun i : Fin 16 => pc XB MB ZB d (OB d) (wk (Fin.cast nCore_zero c) i))
      ∗ ((bigSep Finset.univ fun i : Fin 16 => pc XB MB ZB d (CB XB MB ZB d) (wk (Fin.cast nCore_zero c) i))
          -∗ bigSep Finset.univ fun i : Fin 16 => pc XB MB ZB d (CB XB MB ZB d) (wk (Fin.cast nCore_zero c) i)))
  iintro H; imodintro
  isplitl [H]; · iexact H
  iintro H; iexact H

/-! ## The whole arrays are the pieces -/

/-- Two workers' ids lie apart. -/
theorem setX_disj : ∀ i ∈ (Finset.univ : Finset (Fin 32)), ∀ j ∈ (Finset.univ : Finset (Fin 32)), i ≠ j → Disjoint (setX i) (setX j) :=
  fun _ _ _ _ h => Rect.part_disjoint hdivX h
/-- The workers' ids are all the ids. -/
theorem setX_all : (Finset.univ : Finset (Fin 32)).biUnion setX = Finset.univ := Rect.biUnion_part hdivX
/-- Two workers' counts lie apart. -/
theorem setO_disj : ∀ i ∈ (Finset.univ : Finset (Fin 32)), ∀ j ∈ (Finset.univ : Finset (Fin 32)), i ≠ j → Disjoint (setO i) (setO j) :=
  fun _ _ _ _ h => Rect.part_disjoint hdivO h
/-- The workers' counts are all the counts. -/
theorem setO_all : (Finset.univ : Finset (Fin 32)).biUnion setO = Finset.univ := Rect.biUnion_part hdivO

/-- The ids, split among the workers. -/
theorem x_pieces (d : Dev nD) (f : Buf (Elt F) (xLoc d)) :
    (xLoc d ↦{fullShare} f : sProp 𝕄) = bigSep Finset.univ fun w : Fin 32 => xLoc d ↦[setX w]{fullShare} f := by
  rw [← pointsTo_biUnion Finset.univ (ℓ := xLoc d) setX setX_disj, setX_all]; try rfl
/-- The mask values, split among the workers. -/
theorem m_pieces (d : Dev nD) (f : Buf (Elt F) (mLoc d)) :
    (mLoc d ↦{fullShare} f : sProp 𝕄) = bigSep Finset.univ fun w : Fin 32 => mLoc d ↦[setX w]{fullShare} f := by
  rw [← pointsTo_biUnion Finset.univ (ℓ := mLoc d) setX setX_disj, setX_all]; try rfl
/-- The counts, split among the workers. -/
theorem o_pieces (d : Dev nD) (f : Buf (Elt F) (oLoc d)) :
    (oLoc d ↦{fullShare} f : sProp 𝕄) = bigSep Finset.univ fun w : Fin 32 => oLoc d ↦[setO w]{fullShare} f := by
  rw [← pointsTo_biUnion Finset.univ (ℓ := oLoc d) setO setO_disj, setO_all]; try rfl

/-- Over cores and subcores is over workers. -/
theorem over_workers (Φ : Fin 32 → sProp 𝕄) :
    (bigSep Finset.univ fun c : Fin 2 => bigSep Finset.univ fun i : Fin 16 => Φ (wk c i)) = bigSep Finset.univ Φ :=
  ((bigSep_univ_equiv workers Φ).trans (bigSep_univ_prod fun p => Φ (workers p))).symm

/-- Together the workers' pieces are the ids, the mask values, a read share of the zeros for each and the counts. -/
theorem pieces_eq (d : Dev nD) (f : Buf (Elt F) (oLoc d)) :
    bigSep Finset.univ (pc XB MB ZB d f) = iprop((xLoc d ↦{fullShare} XB d) ∗ (mLoc d ↦{fullShare} MB d)
      ∗ (bigSep Finset.univ fun w : Fin 32 => zLoc d ↦{shareTok fullShare 32 w} ZB d) ∗ (oLoc d ↦{fullShare} f) : sProp 𝕄) := by
  rw [x_pieces, m_pieces, o_pieces, ← bigSep_sep', ← bigSep_sep', ← bigSep_sep']

/-- The four arrays are what the two cores are handed, and a share of the zeros kept aside. -/
theorem st_deal (d : Dev nD) :
    iprop((xLoc d ↦{fullShare} XB d : sProp 𝕄) ∗ (mLoc d ↦{fullShare} MB d) ∗ (zLoc d ↦{fullShare} ZB d) ∗ (oLoc d ↦{fullShare} OB d))
      ⊢ iprop((zLoc d ↦{shareDrop fullShare 32} ZB d) ∗ bigSep Finset.univ fun c : Fin ((K (F := F)).nCore 0) => (P XB MB ZB OB).st 0 d c) := by
  rw [show (bigSep Finset.univ fun c : Fin ((K (F := F)).nCore 0) => (P XB MB ZB OB).st 0 d c)
    = bigSep Finset.univ fun c : Fin 2 => bigSep Finset.univ fun i : Fin 16 => pc XB MB ZB d (OB d) (wk c i) from rfl,
    over_workers (pc XB MB ZB d (OB d)), pieces_eq]
  iintro ⟨Hx, Hm, Hz, Ho⟩
  ihave H := (Transfers.pointsTo_toks_split fullShare 32) $$ Hz
  icases H with ⟨Hd, Hz⟩
  isplitl [Hd]; · iexact Hd
  isplitl [Hx]; · iexact Hx
  isplitl [Hm]; · iexact Hm
  isplitl [Hz] <;> iassumption

/-- What the two cores hand back, and the share kept aside, are the four arrays, the counts computed. -/
theorem dn_join (d : Dev nD) :
    iprop((zLoc d ↦{shareDrop fullShare 32} ZB d : sProp 𝕄) ∗ bigSep Finset.univ fun c : Fin ((K (F := F)).nCore 0) => (P XB MB ZB OB).dn 0 d c)
      ⊢ iprop((xLoc d ↦{fullShare} XB d) ∗ (mLoc d ↦{fullShare} MB d) ∗ (zLoc d ↦{fullShare} ZB d) ∗ (oLoc d ↦{fullShare} CB XB MB ZB d)) := by
  rw [show (bigSep Finset.univ fun c : Fin ((K (F := F)).nCore 0) => (P XB MB ZB OB).dn 0 d c)
    = bigSep Finset.univ fun c : Fin 2 => bigSep Finset.univ fun i : Fin 16 => pc XB MB ZB d (CB XB MB ZB d) (wk c i) from rfl,
    over_workers (pc XB MB ZB d (CB XB MB ZB d)), pieces_eq]
  iintro ⟨Hd, Hx, Hm, Hz, Ho⟩
  ihave H := (Transfers.pointsTo_toks_join (f := ZB d) (ℓ := zLoc d) (S := Finset.univ) fullShare 32) $$ [Hd Hz]
  · isplitl [Hd] <;> iassumption
  isplitl [Hx]; · iexact Hx
  isplitl [Hm]; · iexact Hm
  isplitl [H] <;> iassumption

/-! ## The subcore's obligation -/

/-- The grid point of a SparseCore and a tile. -/
def coordsV (c : Fin (grid0.bound 0)) (s : Fin (grid0.bound 1)) : grid0.Coords :=
  fun | 0 => c | 1 => s | ⟨_ + 2, h⟩ => absurd h (Nat.not_lt.2 (Nat.le_add_left _ _))

/-- The body a tile runs is the kernel's at its grid point. -/
theorem defs₀_vector (c : Fin τ.nSC) (s : Fin τ.nSub) :
    defs₀ (F := F) (.scVector c s) 0 ()
      = SparseCore.onTile hcore0 hsub0 (fun c s => cc0_hist (coordsV c s)
          (Memref.whole main_v0_scv) (Memref.isWhole_whole _) (Memref.whole main_v2_scv) (Memref.isWhole_whole _) (Memref.whole main_v3_scv) (Memref.isWhole_whole _)
          (Memref.whole main_v5_scv) (Memref.isWhole_whole _) (Memref.whole cc0_scratch0) (Memref.isWhole_whole _) (Memref.whole cc0_scratch1) (Memref.isWhole_whole _)
          (Memref.whole cc0_scratch2) (Memref.isWhole_whole _) cc0_scoped0 cc0_scoped1 cc0_scoped2 cc0_scoped3) ⟨⟩ c s := rfl

/-- Every subcore's task, from its piece to its piece with the counts computed. -/
theorem tileObl [∀ e, Nonempty (Elt F e)] (hX : ∀ d j, (XB d j).toNat < 64) (hF : (K (F := F)).Facts) :
    (K (F := F)).TileObl (D (F := F)) 𝒱 (P XB MB ZB OB) v₀ 0 := by
  intro d c i O W hO _ _
  simp only [show (P XB MB ZB OB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (XB d) (MB d) (ZB d) (OB d) (shareTok fullShare 32 (wk (Fin.cast nCore_zero c) (Fin.cast nSub_zero i)))
    (hX d) hF O W hO

end Cert.Proof.Launch

end
-- ==== Proof.Region.lean ====
/-
  The TensorCore's kernel: at each of the eight grid points a block of 512 rows of counts times the padded table.
-/
module

public import proofs.«01_k».proof.Proof.Tile
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.ValueKit
public import Idealize.ShloMosaic.Lib.VecWindow

@[expose] public section

set_option maxRecDepth 16384

noncomputable section

namespace Cert.Proof.Region

open Cert.KernelIdeal Cert.KernelIdeal.Gen Cert.Proof.Tile
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- The body, from the three staging buffers: the third ends holding the product of the first two. -/
theorem body_run (c : Dev nD) (i : grid1.Coords) (M0 : Memref sig .tc .vmem S512x64 .f32) (h0 : M0.IsWhole) (M1 : Memref sig .tc .vmem S64x32 .f32)
    (h1 : M1.IsWhole) (M2 : Memref sig .tc .vmem S512x32 .f32) (h2 : M2.IsWhole) (X0 : Vec F S512x64 .f32) (X1 : Vec F S64x32 .f32)
    (X2 : Vec F S512x32 .f32) (Q : PUnit → sProp 𝕄) :
    iprop((owns (c : Thread nD τ) M0 fullShare X0 : sProp 𝕄) ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (k1_pay1 X0 X1)) -∗ Q ⟨⟩))
      ⊢ wp frame (wpE (defs₀ (F := F)) 𝒱₀ (c : Thread nD τ) none) Set.univ (cc1_body i M0 h0 M1 h1 M2 h2) Q := by
  rw [cc1_body_eq_skeleton]
  unfold cc1_body_skel owns
  iintro ⟨⟨%f0, %e0, H0⟩, ⟨%f1, %e1, H1⟩, ⟨%f2, -, H2⟩, Hk⟩
  iapply (wp_load 𝒱₀ (c : Thread nD τ) none Set.univ (m := M0) (S := M0.view.set) (View.setOn_subset_set _ _)) $$ H0
  iintro H0
  rw [View.readAt_full, e0]
  iapply (wp_load 𝒱₀ (c : Thread nD τ) none Set.univ (m := M1) (S := M1.view.set) (View.setOn_subset_set _ _)) $$ H1
  iintro H1
  rw [View.readAt_full, e1]
  iapply (wp_load 𝒱₀ (c : Thread nD τ) none Set.univ (m := M2) (S := M2.view.set) (View.setOn_subset_set _ _)) $$ H2
  iintro H2
  iapply (wp_store 𝒱₀ (c : Thread nD τ) none Set.univ (m := M2)
    (r := Rect.unit (s := S512x32) ![0, 0] S512x32.size inb_S512x32_S512x32_0_0) (S := M2.view.set)
    ((View.setOn_subset_set _ _).trans (View.set_slice_subset _ _))) $$ H2
  iintro H2
  rw [show ((Prog.ret PUnit.unit).bind fun _ => pure PUnit.unit) = (Prog.ret PUnit.unit : Prog (TpuEff nD τ sig (Elt F) Λ₀ .tc) PUnit) from rfl, wp_ret]
  imodintro
  iapply Hk
  isplitl [H0]; · iexists _; isplitr; swap; (· iexact H0); ipureintro; exact e0
  isplitl [H1]; · iexists _; isplitr; swap; (· iexact H1); ipureintro; exact e1
  iexists _; isplitr; swap; (· iexact H2); ipureintro
  exact View.read_writes_full M2.view f2 inb_S512x32_S512x32_0_0 (k1_pay1 X0 X1) []

variable (V : (c : Dev nD) → (b : Ref sig .tc) → Buf (Elt F) ((c : Thread nD τ).loc b)) (b : ℕ)

/-- The block of counts and the table as staged at a point. -/
abbrev stg0 (c : Dev nD) (t : Fin cfg1.N) : (cfg1.win 0).block.Idx → Elt F (cfg1.win 0).elt := ((cfg1.win 0).blk t).view.read (Elt F) (V c main_v6)
/-- The table as step `t` reads it. -/
abbrev stg1 (c : Dev nD) (t : Fin cfg1.N) : (cfg1.win 1).block.Idx → Elt F (cfg1.win 1).elt := ((cfg1.win 1).blk t).view.read (Elt F) (V c main_v4)

/-- The pairs recorded by the core's waits sit at or below the level `b`. -/
abbrev below (c : Dev nD) : Set (SemLoc sig × HIx 1) := {p | (Tile.K (F := F)).lev (SparseCore.T c, p.1) p.2 ≤ b}

/-- The proof data: the arrays at the entry contents; after the body the two inputs as staged, the result at their product. -/
def dat (c : Dev nD) : Dat τ (Elt F) (HIx 1) ℕ UU ℕ cfg1 c where
  A w := V c (Pipeline.arrRef spec1 w)
  after w t := match w with
    | ⟨0, _⟩ => stg0 V c t
    | ⟨1, _⟩ => stg1 V c t
    | ⟨2, _⟩ => k1_pay1 (stg0 V c t) (stg1 V c t)
  Φ _ := Pipeline.scopedRest (Ix := HIx 1) (Name := ℕ) (U := UU) (Lvl := ℕ) (Val := Elt F) spec1 c
  q _ := fullShare
  owed _ := 0
  recorded _ := below (F := F) b c

/-- Step `t` finds its block of the counts. -/
theorem before_0 (c : Dev nD) (t : Fin cfg1.N) (d) : (dat V b c).before 0 t d = stg0 V c t :=
  (dat V b c).before_in_eq_fetched 0 rfl (fun _ => rfl) (fun _ _ _ => rfl) (fun _ => by dsimp only [dat]; rfl) t d

/-- Step `t` finds the table. -/
theorem before_1 (c : Dev nD) (t : Fin cfg1.N) (d) : (dat V b c).before 1 t d = stg1 V c t :=
  (dat V b c).before_in_eq_fetched 1 rfl (fun _ => rfl) (fun _ _ _ => rfl) (fun _ => by dsimp only [dat]; rfl) t d

/-- The body's obligation at every point. -/
theorem body_obligation (c : Dev nD) : BodyObligation (dat V b c) (defs₀ (F := F)) 𝒱₀ (none : HIx 1) Set.univ := fun t => by
  rw [bigSep_W1, bigSep_W1]
  rw [show (dat V b c).Φ t.succ = (dat V b c).Φ t.castSucc from rfl,
    show (dat V b c).owesAt none t.succ = (dat V b c).owesAt none t.castSucc from rfl]
  iintro ⟨HΦ, Howes, ⟨%d0, H0⟩, ⟨%d1, H1⟩, ⟨%d2, H2⟩⟩
  rw [before_0, before_1]
  iapply (body_run c (grid1.coords t) _ (hstage1_0 ((cfg1.slots t 0).cast nbuf1_0)) _ (hstage1_1 ((cfg1.slots t 1).cast nbuf1_1)) _
    (hstage1_2 ((cfg1.slots t 2).cast nbuf1_2)) (stg0 V c t) (stg1 V c t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

variable (adm : (p : Fin 1) → (pcfgs (F := F) p).Adm)

/-- The one pipeline's proof data. -/
def pdats : (p : Fin 1) → (c : Dev nD) → Dat τ (Elt F) (HIx 1) ℕ UU ℕ (Pipeline.pin (pcfgs (F := F)) adm p) c
  | ⟨0, _⟩ => fun c => dat V b c

variable (Vp : (c : Dev nD) → (b : Ref sig .tc) → Buf (Elt F) ((c : Thread nD τ).loc b))

set_option backward.isDefEq.respectTransparency.types false in
/-- The region over the core's unscoped buffers: entered at `V`, left at `Vp`, which is `V` with the result in its array. -/
def reg (hVp_out : ∀ c, Vp c main_v7 = (dat V b c).arrAt 2 cfg1.N)
    (hVp_ne : ∀ c (b : Ref sig .tc), b ≠ main_v7 → Vp c b = V c b) :
    Pipeline.RegionSeg (pcfgs (F := F)) adm (pdats V b adm) (none : HIx 1) defs₀ 𝒱₀ (Tile.K (F := F)).L (Tile.K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(unscopedBufs c (V c) ∗ ∃ W, ⌜(Tile.K (F := F)).WBelow (SparseCore.T c) W b⌝ ∗ owes (c : Thread nD τ) (0 : CellTallies nD τ sig (HIx 1)) W)
  post c := iprop(unscopedBufs c (Vp c) ∗ ∃ W, ⌜(Tile.K (F := F)).WBelow (SparseCore.T c) W b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b adm) launch1.win launch1.arr_whole c
      ((pdats V b adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V b adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V b adm 0 c).Φ (Fin.last _)
      = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b adm) ((pdats V b adm 0 c).share_full fun _ => rfl) (V c) (Vp c) ((pdats V b adm 0 c).arrAt · cfg1.N)
      (fun w => by
        fin_cases w
        · exact ((pdats V b adm 0 c).arrAt_in 0 rfl _).trans (hVp_ne c main_v6 (by decide)).symm
        · exact ((pdats V b adm 0 c).arrAt_in 1 rfl _).trans (hVp_ne c main_v4 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Region

end
-- ==== Proof.Main.lean ====
/-
  The program's run: the host's operations, the SparseCore call, the TensorCore's kernel.
-/
module

public import proofs.«01_k».proof.Proof.Launch
public import proofs.«01_k».proof.Proof.Region

@[expose] public section

set_option maxRecDepth 16384

noncomputable section

namespace Cert.Proof.Main

open Cert.KernelIdeal Cert.KernelIdeal.Gen Cert.Proof.Tile Cert.Proof.Launch
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)

variable {F : FTy → Type} [FloatOps F]

local notation "𝕄" => MT nD τ sig (HIx 1) (Elt F) ℕ UU ℕ

/-! ## The host's operations -/

/-- The operations before the SparseCore call. -/
def ops : List (HloOp τ sig (Elt F)) :=
  [StableHlo.reshape main_arg0 main_v0 (rfl : (.i32 : EltTy) = .i32) shapeCasts_S4096x200_S819200,
   StableHlo.unary main_arg1 main_v1 (uitofp .f32 : (⟨S4096x200, .i1⟩ : BufTy).Contents (Elt F) → (⟨S4096x200, .f32⟩ : BufTy).Contents (Elt F)),
   StableHlo.reshape main_v1 main_v2 (rfl : (.f32 : EltTy) = .f32) shapeCasts_S4096x200_S819200,
   StableHlo.nullary main_cst (constant S_ .f32 0x00000000#32),
   StableHlo.unary main_cst main_v3 (broadcastInDim S8192 ![] bcast_S_S8192 : (⟨S_, .f32⟩ : BufTy).Contents (Elt F) → (⟨S8192, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_arg2 : StableHlo.TRef sig ⟨S50x32, .f32⟩) main_call0.v0 main_call0.v1 (fun x v => pad S64x32 ![0, 0] ![14, 0] ![0, 0] x v pads_S50x32_S64x32_0140_000 h_S_)]

/-- The operation between the SparseCore call and the TensorCore's kernel. -/
abbrev opR : HloOp τ sig (Elt F) := StableHlo.reshape main_v5 main_v6 (rfl : (.f32 : EltTy) = .f32) shapeCasts_S262144_S4096x64

/-- The program: the host operations, the SparseCore call, the reshape of its counts, the TensorCore's kernel. -/
theorem main_eq (d : Dev nD) :
    (main d : Prog (TpuEff nD τ sig (Elt F) (SparseCore.Sig (Pipeline.Sig Λ₀ (Fin 1) fun p => (pcfgs (F := F) p).Adm) 1) .tc) PUnit)
      = seq ops >>= fun _ => (sc (F := F)).run d 0 >>= fun _ => hlo rfl opR (fun _ => .ret (⟨⟩ : PUnit)) >>= fun _ =>
        Prog.lift (.customCall (SparseCore.inner (Pipeline.entry 0)) ()) >>= fun _ => pure ⟨⟩ := rfl

/-- The TensorCore's unscoped arrays. -/
def ucRefs : Finset (DevRef τ sig) := (StableHlo.tcRefs τ sig).filter fun b => ¬ b.isScoped

/-- The unscoped buffers are the arrays of `ucRefs`. -/
theorem unscoped_eq (d : Dev nD) (W : Valuation τ sig (Elt F)) :
    (unscopedBufs d (fun b => W b) : sProp 𝕄) = held (d : Thread nD τ) ucRefs W := by
  unfold unscopedBufs held ucRefs StableHlo.tcRefs
  rw [Finset.filter_map, bigSep_map]
  rfl

/-- The ids in one line. -/
abbrev x' : DevRef τ sig := Proc.devRef .tc (main_v0 : Ref sig .tc)
/-- The mask values in one line. -/
abbrev m' : DevRef τ sig := Proc.devRef .tc (main_v2 : Ref sig .tc)
/-- The zeros. -/
abbrev z' : DevRef τ sig := Proc.devRef .tc (main_v3 : Ref sig .tc)
/-- The counts in one line. -/
abbrev o' : DevRef τ sig := Proc.devRef .tc (main_v5 : Ref sig .tc)
/-- The result. -/
abbrev r' : DevRef τ sig := Proc.devRef .tc (main_v7 : Ref sig .tc)

/-- The call's four arrays. -/
abbrev four : Finset (DevRef τ sig) := {x', m', z', o'}

/-- Holding the four arrays is holding each. -/
theorem held_four (d : Dev nD) (W : Valuation τ sig (Elt F)) :
    (held (d : Thread nD τ) four W : sProp 𝕄)
      = iprop((xLoc d ↦{fullShare} W x') ∗ (mLoc d ↦{fullShare} W m') ∗ (zLoc d ↦{fullShare} W z') ∗ (oLoc d ↦{fullShare} W o')) := by
  unfold held four
  rw [SparseCore.bigSep_insert' (by decide), SparseCore.bigSep_insert' (by decide), SparseCore.bigSep_insert' (by decide), bigSep_singleton]

/-- The four are unscoped arrays. -/
theorem four_sub : four ⊆ ucRefs := by decide +kernel
/-- A set of the TensorCore's unscoped arrays, by name. -/
abbrev refs (l : Finset (Ref sig .tc)) : Finset (DevRef τ sig) := l.map ⟨Proc.devRef .tc, Proc.devRef_injective _⟩
/-- The host operations touch unscoped arrays only. -/
theorem ops_sub : ∀ op ∈ ops (F := F), op.bufs ⊆ ucRefs :=
  List.forall_mem_cons.2 ⟨show refs {main_arg0, main_v0} ⊆ ucRefs by decide +kernel,
  List.forall_mem_cons.2 ⟨show refs {main_arg1, main_v1} ⊆ ucRefs by decide +kernel,
  List.forall_mem_cons.2 ⟨show refs {main_v1, main_v2} ⊆ ucRefs by decide +kernel,
  List.forall_mem_cons.2 ⟨show refs {main_cst} ⊆ ucRefs by decide +kernel,
  List.forall_mem_cons.2 ⟨show refs {main_cst, main_v3} ⊆ ucRefs by decide +kernel,
  List.forall_mem_cons.2 ⟨show refs {main_c} ⊆ ucRefs by decide +kernel,
  List.forall_mem_cons.2 ⟨show refs {main_c, main_call0_v0} ⊆ ucRefs by decide +kernel,
  List.forall_mem_cons.2 ⟨show refs {main_arg2, main_call0_v0, main_v4} ⊆ ucRefs by decide +kernel, List.forall_mem_nil _⟩⟩⟩⟩⟩⟩⟩⟩
/-- So does the reshape of the counts. -/
theorem opR_sub : (opR (F := F)).bufs ⊆ ucRefs := show refs {main_v5, main_v6} ⊆ ucRefs by decide +kernel
/-- The host operations allocate nothing. -/
theorem ops_fresh : ∀ op ∈ ops (F := F), op.fresh = ∅ :=
  List.forall_mem_cons.2 ⟨rfl, List.forall_mem_cons.2 ⟨rfl, List.forall_mem_cons.2 ⟨rfl, List.forall_mem_cons.2 ⟨rfl, List.forall_mem_cons.2 ⟨rfl,
  List.forall_mem_cons.2 ⟨rfl, List.forall_mem_cons.2 ⟨rfl, List.forall_mem_cons.2 ⟨rfl, List.forall_mem_nil _⟩⟩⟩⟩⟩⟩⟩⟩

variable (m : (ℓ : Loc nD τ sig) → Buf (Elt F) ℓ) (ρ : Dev nD → PrngReg)

/-- The arrays at the launch, at the SparseCore call, after it, at the TensorCore's kernel. -/
def V0 (d : Dev nD) : Valuation τ sig (Elt F) := fun b => m (d, b)
/-- The arrays at the SparseCore call. -/
def VA (d : Dev nD) : Valuation τ sig (Elt F) := after ops (V0 m d)
/-- The ids at the call. -/
abbrev XB (d : Dev nD) : Buf (Elt F) (xLoc d) := VA m d x'
/-- The mask values at the call. -/
abbrev MB (d : Dev nD) : Buf (Elt F) (mLoc d) := VA m d m'
/-- The zeros at the call. -/
abbrev ZB (d : Dev nD) : Buf (Elt F) (zLoc d) := VA m d z'
/-- The counts' array at the call. -/
abbrev OB (d : Dev nD) : Buf (Elt F) (oLoc d) := VA m d o'
/-- The arrays after the SparseCore call. -/
def VB (d : Dev nD) : Valuation τ sig (Elt F) := Function.update (VA m d) o' (CB (XB m) (MB m) (ZB m) d)
/-- The arrays at the TensorCore's kernel. -/
def VC (d : Dev nD) : Valuation τ sig (Elt F) := opR.result (VB m d)
/-- The same by the TensorCore's names. -/
abbrev Vr (d : Dev nD) (b : Ref sig .tc) : Buf (Elt F) ((d : Thread nD τ).loc b) := VC m d (Proc.devRef .tc b)
/-- What the recorded waits are bounded by when the kernel is entered. -/
abbrev bnd : ℕ := 8 * SparseCore.Cfg.Blocks.fst (Q := 1) (N := 1) 1
/-- The result. -/
def out (d : Dev nD) : Buf (Elt F) ((d : Thread nD τ).loc main_v7) := (Region.dat (Vr m) bnd d).arrAt 2 cfg1.N
/-- The arrays at the end. -/
def VD (d : Dev nD) : Valuation τ sig (Elt F) := Function.update (VC m d) r' (out m d)

/-! ## The ghost state -/

/-- The pipeline's rounds, inside the second component. -/
abbrev EP : Emb UP (MT nD τ sig (HIx 1) (Elt F) ℕ UU ℕ) := (Emb.inl : Emb UP (UP × Counters)).trans embR

/-- The TensorCore's kernel is admissible. -/
abbrev adm : (p : Fin 1) → (pcfgs (F := F) p).Adm := fun p => (cfgs p).toPCfg_adm

/-- What the launch deals each core for its pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The ghost state at the launch. -/
def u₀ : UU := (initOf (K (F := F)).hsCells (K (F := F)).hsToks,
  (initOf (Pipeline.cells (nD := nD) cfgs cellOf_inj) (Pipeline.launchToks (nD := nD) cfgs cellOf_inj), 1))

/-- The launch's ghost state gives the handshakes theirs and each core its pipeline's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (XB m) (MB m) (ZB m) (OB m)).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost cfgs EP cellOf_inj) $$ HP with ⟨Hc, Ht⟩
  imodintro
  isplitl [HH]; · iexact HH
  isplitl [Hc Ht]
  · unfold G
    rw [bigSep_sep']
    rw [show (fun c : Dev nD => bigSep Finset.univ fun p : Fin 1 => Pipeline.cellsGhost cfgs (EP (F := F)) p c) = fun c => Pipeline.cellsGhost cfgs EP 0 c from
      funext fun _ => bigSep_univ_of_subsingleton (0 : Fin 1),
      show (fun c : Dev nD => bigSep Finset.univ fun p : Fin 1 => (Pipeline.toksInit cfgs (EP (F := F)) p c : sProp 𝕄)) = fun c => Pipeline.toksInit cfgs EP 0 c from
      funext fun _ => bigSep_univ_of_subsingleton (0 : Fin 1)]
    isplitl [Hc]; · iexact Hc
    iexact Ht
  rw [show (bigSep Finset.univ fun thr : Thread nD τ => bigSep Finset.univ fun q : Fin 1 => (P (XB m) (MB m) (ZB m) (OB m)).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

/-! ## The TensorCore's kernel in @main -/

/-- The core's state around the kernel: the arrays, and the waits recorded so far bounded. -/
abbrev around (d : Dev nD) (W : Valuation τ sig (Elt F)) : sProp 𝕄 :=
  iprop(unscopedBufs d (fun b => W b) ∗ ∃ R, ⌜(K (F := F)).WBelow (SparseCore.T d) R bnd⌝ ∗ owes (d : Thread nD τ) (0 : CellTallies nD τ sig (HIx 1)) R)

/-- The TensorCore's kernel as a segment: it takes the arrays from `VC` to `VD`. -/
theorem region_exists : ∃ R : Pipeline.RegionSeg (pcfgs (F := F)) adm (Region.pdats (Vr m) bnd adm) (none : HIx 1) defs₀ 𝒱₀ (K (F := F)).L (K (F := F)).lev 0,
    R.pre = (fun d => around d (VC m d)) ∧ R.post = fun d => around d (VD m d) :=
  ⟨Region.reg (Vr m) bnd adm (fun c b => VD m c (Proc.devRef .tc b)) (fun c => Function.update_self _ _ _)
    (fun c b h => Function.update_of_ne (fun e => h (Proc.devRef_injective _ e)) _ _), rfl, rfl⟩

/-- The kernel's region: the arrays go from `VC` to `VD`. -/
theorem region_run [∀ e, Nonempty (Elt F e)] (d : Dev nD) (Φ : PUnit → sProp 𝕄) :
    iprop((iprop(boundary (SparseCore.T d) ∗ around d (VD m d)) -∗ Φ ⟨⟩)
        ∗ boundary (SparseCore.T d) ∗ around d (VC m d) ∗ levAts (K (F := F)).L (K (F := F)).lev ∗ G d)
      ⊢ wp frame (wpE (D (F := F)) 𝒱 (SparseCore.T d) none) Set.univ (Prog.lift (.customCall (Pipeline.entry 0) ())) Φ := by
  obtain ⟨R, hpre, hpost⟩ := region_exists m
  have h := Pipeline.RegionSeg.wp (pcfgs (F := F)) adm (Region.pdats (Vr m) bnd adm) (none : HIx 1) cellOf_inj EP defs₀ 𝒱₀ (K (F := F)).L (K (F := F)).lev
    R d none (fun _ h => nomatch h) (fun _ => .ret ⟨⟩) Φ
  rw [hpre, hpost] at h
  have h' : iprop((iprop(boundary (SparseCore.T d) ∗ around d (VD m d)) -∗ wp frame (wpE (D (F := F)) 𝒱 (SparseCore.T d) none) Set.univ (.ret ⟨⟩) Φ)
        ∗ boundary (SparseCore.T d) ∗ around d (VC m d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (Prog.lift (.customCall (Pipeline.entry 0) ())) Φ := h
  unfold G
  iintro ⟨Hk, Hb, Hh, Hlv, Hc, Ht⟩
  iapply h'
  isplitl [Hk]
  · iintro ⟨Hb, Hh⟩
    rw [wp_ret]; imodintro
    iapply Hk
    isplitl [Hb]; · iexact Hb
    iexact Hh
  isplitl [Hb]; · iexact Hb
  isplitl [Hh]; · iexact Hh
  isplitl [Hlv]; · iexact Hlv
  isplitl [Hc]; · iexact Hc
  iexact Ht

/-! ## @main -/

/-- The call changes none of the other arrays. -/
theorem VB_other (d : Dev nD) : ∀ b ∈ ucRefs \ four, VA m d b = VB m d b :=
  fun b hb => (Function.update_of_ne (fun e : b = o' => (Finset.mem_sdiff.mp hb).2 (by rw [e]; decide)) _ _).symm

/-- The call's four arrays and the rest, the counts computed, are the arrays at `VB`. -/
theorem held_VB (d : Dev nD) :
    iprop(((xLoc d ↦{fullShare} XB m d : sProp 𝕄) ∗ (mLoc d ↦{fullShare} MB m d) ∗ (zLoc d ↦{fullShare} ZB m d) ∗ (oLoc d ↦{fullShare} CB (XB m) (MB m) (ZB m) d))
      ∗ held (SparseCore.T d) (ucRefs \ four) (VA m d)) ⊢ held (SparseCore.T d) ucRefs (VB m d) := by
  rw [StableHlo.held_sub_split _ four_sub (VB m d), StableHlo.held_congr _ (VB_other m d), held_four,
    show VB m d x' = XB m d from Function.update_of_ne (by decide) _ _, show VB m d m' = MB m d from Function.update_of_ne (by decide) _ _,
    show VB m d z' = ZB m d from Function.update_of_ne (by decide) _ _, show VB m d o' = CB (XB m) (MB m) (ZB m) d from Function.update_self _ _ _]

/-- What @main leaves: every array at `VD`. -/
abbrev FIN (d : Dev nD) : sProp 𝕄 := held (SparseCore.T d) ucRefs (VD m d)

/-- After the call the TensorCore owes nothing, and what it has waited for is bounded. -/
theorem tcSt_owes (d : Dev nD) :
    (K (F := F)).tcSt EH d 1 ⊢ iprop((∃ R, ⌜(K (F := F)).WBelow (SparseCore.T d) R bnd⌝ ∗ owes (SparseCore.T d) (0 : CellTallies nD τ sig (HIx 1)) R)
      ∗ ((∃ R, ⌜(K (F := F)).WBelow (SparseCore.T d) R bnd⌝ ∗ owes (SparseCore.T d) (0 : CellTallies nD τ sig (HIx 1)) R) -∗ ((K (F := F)).tcSt EH d 1 : sProp 𝕄))) := by
  unfold SparseCore.Cfg.tcSt
  rw [(K (F := F)).Otc_end d le_rfl]
  iintro ⟨HO, Hr⟩
  isplitl [HO]; · iexact HO
  iintro HO
  isplitl [HO] <;> iassumption

/-- @main on device `d`'s TensorCore. -/
theorem hmain [∀ e, Nonempty (Elt F e)] (κ : GSem nD τ sig → ℕ) (d : Dev nD) :
    iprop((K (F := F)).ctx EH (P (XB m) (MB m) (ZB m) (OB m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscoped_eq d (V0 m d), main_eq]
  iintro ⟨#Hctx, Hst, ⟨Hb, Hh, Hts, -⟩, HG⟩
  iapply (StableHlo.wp_seq 𝒱 none Set.univ d ucRefs _ ops ops_sub ops_fresh (V0 m d)) $$ [Hb Hh]
  · isplitl [Hb] <;> iassumption
  iintro ⟨Hb, Hh⟩
  ihave Hh' := (show held (d : Thread nD τ) ucRefs (after ops (V0 m d)) ⊢ iprop(held (SparseCore.T d) four (VA m d) ∗ (held (SparseCore.T d) (ucRefs \ four) (VA m d) : sProp 𝕄))
    from Entails.of_eq (StableHlo.held_sub_split (SparseCore.T d) four_sub (VA m d))) $$ Hh
  icases Hh' with ⟨H4, Hrest⟩
  ihave H4' := (Entails.of_eq (held_four d (VA m d))) $$ H4
  ihave H4s := (st_deal (XB m) (MB m) (ZB m) (OB m) d) $$ H4'
  icases H4s with ⟨Hdrop, Hpcs⟩
  rw [wp_bind]
  iapply ((K (F := F)).wp_run (D (F := F)) 𝒱 (EH := EH) (P := P (XB m) (MB m) (ZB m) (OB m)) κ d 0) $$ [Hst Hb Hdrop Hpcs Hrest Hts HG]
  isplitr; · iexact Hctx
  isplitl [Hst]; · iexact Hst
  isplitl [Hpcs]; · iexact Hpcs
  iintro ⟨Hst, Hdn⟩
  ihave H4 := (dn_join (XB m) (MB m) (ZB m) (OB m) d) $$ [Hdrop Hdn]
  · isplitl [Hdrop] <;> iassumption
  ihave Hh := (held_VB m d) $$ [H4 Hrest]
  · isplitl [H4] <;> iassumption
  rw [wp_bind]
  iapply (StableHlo.wp_hlo_within 𝒱 (SparseCore.T d) none Set.univ (op := opR) (S := ucRefs) opR_sub (V := VB m d)) $$ [Hb Hh]
  · isplitl [Hb] <;> iassumption
  iintro ⟨Hb, Hh⟩
  rw [wp_ret]; imodintro
  rw [wp_bind]
  ihave Hst' := (show (K (F := F)).tcSt EH d ((0 : Fin 1).val + 1) ⊢ _ from tcSt_owes d) $$ Hst
  icases Hst' with ⟨HO, Hst⟩
  ihave #Hlv := ((K (F := F)).ctx_levAts (EH := EH) (P := P (XB m) (MB m) (ZB m) (OB m)) κ) $$ Hctx
  iapply ((K (F := F)).wp_liftProg (D (F := F)) 𝒱 (SparseCore.T d) Set.univ none (Prog.lift (.customCall (Pipeline.entry 0) ())) _)
  iapply (region_run m d)
  isplitl [Hst Hts]
  · iintro ⟨Hb, Hh, HO⟩
    rw [wp_pure]; imodintro
    isplitl [Hst HO]
    · iapply Hst; iexact HO
    isplitl [Hh]; · iapply (Entails.of_eq (unscoped_eq d (VD m d))); iexact Hh
    isplitl [Hb] <;> iassumption
  isplitl [Hb]; · iexact Hb
  isplitl [Hh HO]
  · isplitl [Hh]; · iapply (Entails.of_eq (unscoped_eq d (VC m d)).symm); iexact Hh
    iexact HO
  isplitr; · iexact Hlv
  iexact HG

/-- Every array ends at `VD`. -/
def fq (d : Dev nD) (s' : Phys nD τ sig (Elt F)) : Prop := ∀ b ∈ ucRefs, s'.mem.mem ((d, b) : Loc nD τ sig) = VD m d b

/-- The final state holds what the points-to's of a set of arrays say. -/
theorem held_reads (d : Dev nD) (s' : Phys nD τ sig (Elt F)) (W : Valuation τ sig (Elt F)) (S : Finset (DevRef τ sig)) :
    iprop(held (d : Thread nD τ) S W ∗ SI s') ⊢ (⌜∀ b ∈ S, s'.mem.mem ((d, b) : Loc nD τ sig) = W b⌝ : sProp 𝕄) := by
  unfold held
  induction S using Finset.induction_on with
  | empty => iintro -; ipureintro; exact fun b hb => absurd hb (Finset.notMem_empty b)
  | insert b S hb ih =>
    rw [SparseCore.bigSep_insert' hb]
    iintro ⟨⟨Hx, HS⟩, HSI⟩
    ihave H := (persistent_entails_right (SI_pointsTo_agree (st := s') (ℓ := ((d, b) : Loc nD τ sig)) (I := Finset.univ) (q := fullShare) (f := W b))) $$ [HSI Hx]
    · isplitl [HSI] <;> iassumption
    icases H with ⟨%hx, HSI, -⟩
    ihave H := ih $$ [HS HSI]
    · isplitl [HS] <;> iassumption
    icases H with %hS
    ipureintro
    exact fun c hc => (Finset.mem_insert.1 hc).elim (fun e => e ▸ funext fun i => hx i (Finset.mem_univ i)) (hS c)

/-- At the end the memory holds what the arrays are said to. -/
theorem hfin (d : Dev nD) (s' : Phys nD τ sig (Elt F)) : iprop(FIN m d ∗ SI s') ⊢ (⌜fq m d s'⌝ : sProp 𝕄) :=
  held_reads d s' (VD m d) ucRefs

/-! ## The run -/

/-- What every final state satisfies. -/
def QC : PUnit × MemSt nD τ sig (Elt F) → Prop := fun r => (∀ (d : Dev nD), ∀ b ∈ ucRefs, r.2.mem ((d, b) : Loc nD τ sig) = VD m d b) ∧ r.2.sem = fun _ => 0

/-- From ids below 64, every run ends, with every array at `VD` and every semaphore at zero. -/
theorem run_arrays [∀ e, Nonempty (Elt F e)] (hX : ∀ d j, (XB m d j).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XB m) (MB m) (ZB m) (OB m)) (A := ∅) facts v₀
    (fun q hq => match q with | 0 => nomatch hq)
    (fun q _ => match q with | 0 => tileObl (XB m) (MB m) (ZB m) (OB m) hX facts)
    (fun q _ => match q with | 0 => SparseCore.Cfg.VecSplit.of_plain (vecSplit (XB m) (MB m) (ZB m) (OB m)))
    m ρ main G (FIN m) u₀ (sep_elim_left.trans (hu₀ m)) (hmain m ρ) (fq m) (hfin m) (QC m) (fun _ h hz => ⟨h, hz⟩)

end Cert.Proof.Main

end
-- ==== Proof.Frame.lean ====
/-
The program's run read at its arguments and its result, from the precondition; the frames.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll
public import Idealize.ShloMosaic.Lib.Affine

@[expose] public section

noncomputable section

namespace Cert.Proof.Frame

open Cert.KernelIdeal Cert.KernelIdeal.Gen Cert.Proof.Tile Cert.Proof.Launch Cert.Proof.Main
open Idealize.ShloMosaic
open Idealize.ShloMosaic.TcCoe
open Idealize.SL.Sem
open Idealize.ShloMosaic.StableHlo (after seq)

variable {F : FTy → Type} [FloatOps F]

/-! ## The precondition -/

/-- The precondition puts every id below 50. -/
theorem ids_lt (a0 : IVec S4096x200 32) (a1 : IVec S4096x200 1) (a2 : FVec F S50x32 .f32)
    (h : Cert.Pre_in_range.fn (F := F) a0 a1 a2 = fun _ => 1#1) (i : S4096x200.Idx) : (a0 i).toNat < 50 := by
  dsimp only [Cert.Pre_in_range.fn] at h
  have hi := Host.reduce_andi_all _ _ _ _ _ (congrFun h (fun a => a.elim0)) i
  have hi' : IntOp.andi (IntOp.cmpi .sge (a0 i) 0#32) (IntOp.cmpi .slt (a0 i) 50#32) = 1#1 := hi
  have h0 := IntOp.cmpi_sge.1 (IntOp.andi_eq_one.1 hi').1
  have h1 := IntOp.cmpi_slt.1 (IntOp.andi_eq_one.1 hi').2
  rw [show (0#32 : BitVec 32).toInt = 0 from rfl] at h0
  rw [show (50#32 : BitVec 32).toInt = 50 from rfl] at h1
  rw [BitVec.toInt_eq_toNat_cond] at h0 h1
  split at h0 <;> omega

/-! ## The arrays at the SparseCore call -/

variable (m : (ℓ : Loc nD τ sig) → Buf (Elt F) ℓ) (ρ : Dev nD → PrngReg)

/-- The ids are the first argument, in one line. -/
theorem XB_eq (d : Dev nD) : XB m d = shapeCast (s := S4096x200) S819200 (m ((d.tc : Thread nD τ).loc main_arg0)) shapeCasts_S4096x200_S819200 := by
  unfold XB VA ops
  after_results
  rfl

/-- The words counted are the second argument's as floats, in one line. -/
theorem MB_eq (d : Dev nD) : MB m d = shapeCast (s := S4096x200) S819200 (uitofp .f32 (m ((d.tc : Thread nD τ).loc main_arg1) : IVec S4096x200 1)) shapeCasts_S4096x200_S819200 := by
  unfold MB VA ops
  after_results
  rfl

/-- The counts start at zero. -/
theorem ZB_eq (d : Dev nD) : ZB m d = broadcastInDim S8192 ![] bcast_S_S8192 (constant S_ .f32 0x00000000#32) := by
  unfold ZB VA ops
  after_results

/-- The padded table. -/
theorem VA_tab (d : Dev nD) : VA m d (Proc.devRef .tc main_v4)
    = pad S64x32 ![0, 0] ![14, 0] ![0, 0] (m ((d.tc : Thread nD τ).loc main_arg2) : FVec F S50x32 .f32) (sitofp .f32 (constantI S_ 32 0#32)) pads_S50x32_S64x32_0140_000 h_S_ := by
  unfold VA ops
  after_results
  rfl

/-- What nothing writes ends as it began. -/
theorem VD_arg (d : Dev nD) (b : Ref sig .tc) (hr : Proc.devRef .tc b ≠ r') (ho : Proc.devRef .tc b ≠ o')
    (hR : Proc.devRef .tc b ∉ (opR (F := F)).writes) (hA : ∀ op ∈ ops (F := F), Proc.devRef .tc b ∉ op.writes) :
    VD m d (Proc.devRef .tc b) = m ((d.tc : Thread nD τ).loc b) := by
  unfold VD VC VB VA
  rw [Function.update_of_ne hr, HloOp.result_of_not_mem _ _ hR, Function.update_of_ne ho, StableHlo.after_of_forall_not_mem _ _ hA]
  rfl

/-- What is none of the host operations' results, none of them writes. -/
theorem not_written (b : Ref sig .tc) (h : Proc.devRef .tc b ∉ refs {main_v0, main_v1, main_v2, main_cst, main_v3, main_c, main_call0_v0, main_v4}) :
    ∀ op ∈ ops (F := F), Proc.devRef .tc b ∉ op.writes := by
  refine List.forall_mem_cons.2 ⟨show Proc.devRef .tc b ∉ refs {main_v0} from ?_, List.forall_mem_cons.2 ⟨show Proc.devRef .tc b ∉ refs {main_v1} from ?_,
    List.forall_mem_cons.2 ⟨show Proc.devRef .tc b ∉ refs {main_v2} from ?_, List.forall_mem_cons.2 ⟨show Proc.devRef .tc b ∉ refs {main_cst} from ?_,
    List.forall_mem_cons.2 ⟨show Proc.devRef .tc b ∉ refs {main_v3} from ?_, List.forall_mem_cons.2 ⟨show Proc.devRef .tc b ∉ refs {main_c} from ?_,
    List.forall_mem_cons.2 ⟨show Proc.devRef .tc b ∉ refs {main_call0_v0} from ?_, List.forall_mem_cons.2 ⟨show Proc.devRef .tc b ∉ refs {main_v4} from ?_,
    List.forall_mem_nil _⟩⟩⟩⟩⟩⟩⟩⟩
  all_goals exact fun hb => h (Finset.map_subset_map.2 (by decide +kernel) hb)

/-- From ids below 50, every run ends with the result at `out`, the arguments as they began and every semaphore at zero. -/
theorem run_main [∀ e, Nonempty (Elt F e)]
    (hP : ∀ d : Dev nD, Cert.Pre_in_range.fn (F := F) (m ((d.tc : Thread nD τ).loc main_arg0)) (m ((d.tc : Thread nD τ).loc main_arg1)) (m ((d.tc : Thread nD τ).loc main_arg2)) = fun _ => 1#1) :
    θ_run (Cert.KernelIdeal.defs (F := F)) (Cert.KernelIdeal.threads (F := F)) ⟨m, fun _ => 0, ρ⟩ (fun r => (∀ d : Dev nD,
      r.2.mem ((d.tc : Thread nD τ).loc main_v7) = out m d
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0) := by
  refine (θ_run Cert.KernelIdeal.defs _ _).mono (fun r h => ⟨fun d => ⟨?_, ?_, ?_, ?_⟩, h.2⟩)
    (run_arrays m ρ fun d j => by rw [XB_eq]; exact (ids_lt _ _ _ (hP d) _).trans (by decide))
  · exact (h.1 d r' (by decide +kernel)).trans (Function.update_self _ _ _)
  · exact (h.1 d (Proc.devRef .tc main_arg0) (by decide +kernel)).trans (VD_arg m d main_arg0 (by decide) (by decide) (show _ ∉ refs {main_v6} by decide) (not_written _ (by decide)))
  · exact (h.1 d (Proc.devRef .tc main_arg1) (by decide +kernel)).trans (VD_arg m d main_arg1 (by decide) (by decide) (show _ ∉ refs {main_v6} by decide) (not_written _ (by decide)))
  · exact (h.1 d (Proc.devRef .tc main_arg2) (by decide +kernel)).trans (VD_arg m d main_arg2 (by decide) (by decide) (show _ ∉ refs {main_v6} by decide) (not_written _ (by decide)))

/-! ## The frames -/

/-- The run without the result. -/
theorem run_frame [∀ e, Nonempty (Elt F e)]
    (hP : ∀ d : Dev nD, Cert.Pre_in_range.fn (F := F) (m ((d.tc : Thread nD τ).loc main_arg0)) (m ((d.tc : Thread nD τ).loc main_arg1)) (m ((d.tc : Thread nD τ).loc main_arg2)) = fun _ => 1#1) :
    θ_run (Cert.KernelIdeal.defs (F := F)) (Cert.KernelIdeal.threads (F := F)) ⟨m, fun _ => 0, ρ⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)) ∧ r.2.sem = fun _ => 0) :=
  (θ_run Cert.KernelIdeal.defs _ _).mono (fun _ h => ⟨fun d => (h.1 d).2, h.2⟩) (run_main m ρ hP)

/-- The idealized kernel runs, its arguments end unchanged, its semaphores at zero. -/
theorem frame_kernelIdeal : Cert.quiescent_KernelIdeal := fun m ρ hP => run_frame (F := Ideal) m ρ hP

/-- The printed kernel's bodies are the idealized program's. -/
theorem bodies_eq : Cert.Kernel.defs₀ (F := Bits) = Cert.KernelIdeal.defs₀ (F := Bits) := by
  funext p l a
  cases p <;> revert a <;> revert l <;> refine Fin.forall_fin_two.2 ⟨fun a => rfl, fun a => rfl⟩

/-- With the TensorCore's kernel and the calls included, the two programs' bodies are the same. -/
theorem defs_eq : Cert.Kernel.defs (F := Bits) = Cert.KernelIdeal.defs (F := Bits) := by
  unfold Cert.Kernel.defs Cert.KernelIdeal.defs
  rw [bodies_eq]
  rfl

/-- The kernel as printed runs, its arguments end unchanged, its semaphores at zero: it is the same program, read at words. -/
theorem frame_kernel : Cert.quiescent_Kernel := fun m ρ hP => by
  rw [defs_eq]
  exact run_frame (F := Bits) m ρ hP

end Cert.Proof.Frame

end
-- ==== Proof.Sums.lean ====
/-
The counts and the product over the extended reals, as sums.
-/
module

public import proofs.«01_k».proof.Proof.Hist
public import Idealize.ShloMosaic.PureOps.Ideal
public import Mathlib.Data.EReal.Operations

@[expose] public section

noncomputable section

namespace Cert.Proof.Sums

open Cert.KernelIdeal Cert.Proof.Hist
open Idealize.ShloMosaic

/-- Over the extended reals, the counts are sums over the positions taken. -/
theorem hist_sum (g : Counts Ideal) (X : ℕ → BitVec 32) (M : ℕ → EReal) (n : ℕ) (j : S8192.Idx) :
    (hist (F := Ideal) g X M n j : EReal) = (g j : EReal) + ∑ q ∈ Finset.range n, if (j 0).val = (X q).toNat + 64 * (q / 200) then M q else 0 := by
  induction n with
  | zero => simp [hist]
  | succ n ih =>
    rw [Finset.sum_range_succ, ← add_assoc, ← ih]
    show (bump (F := Ideal) (hist g X M n) ((X n).toNat + 64 * (n / 200)) (M n) j : EReal) = (hist (F := Ideal) g X M n j : EReal) + _
    unfold bump
    split
    · rfl
    · rw [add_zero]

/-- The positions that count at `64 * r + v` are those of row `r` whose id is `v`. -/
theorem row_sum (X : ℕ → BitVec 32) (M : ℕ → EReal) (hX : ∀ q, (X q).toNat < 64) (r v : ℕ) (hr : r < 128) (hv : v < 64) :
    (∑ q ∈ Finset.range 25600, if 64 * r + v = (X q).toNat + 64 * (q / 200) then M q else 0)
      = ∑ s ∈ Finset.range 200, if (X (200 * r + s)).toNat = v then M (200 * r + s) else 0 := by
  rw [← Finset.sum_filter, ← Finset.sum_filter]
  symm
  refine Finset.sum_bij (fun s _ => 200 * r + s) ?_ ?_ ?_ ?_
  · intro s hs
    rw [Finset.mem_filter, Finset.mem_range] at hs ⊢
    omega
  · intro s _ s' _ h; omega
  · intro q hq
    rw [Finset.mem_filter, Finset.mem_range] at hq
    have := hX q
    refine ⟨q % 200, ?_, ?_⟩
    · rw [Finset.mem_filter, Finset.mem_range]
      have e : 200 * r + q % 200 = q := by omega
      rw [e]; omega
    · omega
  · intro _ _; rfl

/-- A sum of nonnegative terms times `c` is the sum of the products. -/
theorem sum_mul_nonneg {ι : Type} (S : Finset ι) (f : ι → EReal) (hf : ∀ i ∈ S, 0 ≤ f i) (c : EReal) :
    (∑ i ∈ S, f i) * c = ∑ i ∈ S, f i * c := by
  classical
  induction S using Finset.induction_on with
  | empty => simp
  | insert i S hi ih =>
    rw [Finset.sum_insert hi, Finset.sum_insert hi,
      EReal.right_distrib_of_nonneg (hf i (Finset.mem_insert_self i S)) (Finset.sum_nonneg fun k hk => hf k (Finset.mem_insert_of_mem hk)),
      ih fun k hk => hf k (Finset.mem_insert_of_mem hk)]

/-- Counting the values first and multiplying by the table is summing the table's rows at the ids. -/
theorem counts_mul (n : ℕ) (X : ℕ → ℕ) (M : ℕ → EReal) (hM : ∀ s, 0 ≤ M s) (hX : ∀ s, X s < 64) (T : ℕ → EReal) :
    (∑ v ∈ Finset.range 64, (∑ s ∈ Finset.range n, if X s = v then M s else 0) * T v) = ∑ s ∈ Finset.range n, M s * T (X s) := by
  have h1 : ∀ v ∈ Finset.range 64, (∑ s ∈ Finset.range n, if X s = v then M s else 0) * T v = ∑ s ∈ Finset.range n, if X s = v then M s * T v else 0 := by
    intro v _
    rw [sum_mul_nonneg _ _ (fun s _ => by split; exacts [hM s, le_rfl])]
    exact Finset.sum_congr rfl fun s _ => by split <;> simp
  rw [Finset.sum_congr rfl h1, Finset.sum_comm]
  refine Finset.sum_congr rfl fun s _ => ?_
  rw [Finset.sum_ite_eq, if_pos (Finset.mem_range.2 (hX s))]

end Cert.Proof.Sums

end
-- ==== Proof.Product.lean ====
/-
What the TensorCore's kernel leaves: at every row and column, the product of the counts and the table.
-/
module

public import proofs.«01_k».proof.Proof.Main
public import Idealize.ShloMosaic.Lib.Pipeline.ValueKit

@[expose] public section

set_option maxRecDepth 16384

noncomputable section

namespace Cert.Proof.Product

open Cert.KernelIdeal Cert.KernelIdeal.Gen Cert.Proof.Main
open Idealize.ShloMosaic
open Idealize.ShloMosaic.TcCoe
open Idealize.ShloMosaic.Pipeline (Dat)

/-- Row `j 0` of the counts times column `j 1` of the table. -/
def prod (C : FVec Ideal S4096x64 .f32) (T : FVec Ideal S64x32 .f32) : FVec Ideal S4096x32 .f32 := fun j =>
  (∑ k : Fin 64, C (ix2 (j 0) k) * T (ix2 k (j 1)) : EReal)

/-- Which blocks step `t` reads and writes: rows `512 * t` on, and the whole table. -/
theorem idx : ∀ t : Fin cfg1.N, win1_0.index t = ![t.val, 0] ∧ win1_1.index t = ![0, 0] ∧ win1_2.index t = ![t.val, 0] :=
  (by decide +kernel : ∀ t : Fin grid1.N, _)

variable (V : (c : Dev nD) → (b : Ref sig .tc) → Buf (Elt Ideal) ((c : Thread nD τ).loc b)) (b : ℕ)

/-- What step `t` stores is the product on its block. -/
theorem point (c : Dev nD) (t : Fin cfg1.N) (y : S512x32.Idx) :
    k1_pay1 (F := Ideal) (Region.stg0 V c t) (Region.stg1 V c t) y = prod (V c main_v6) (V c main_v4) (((cfg1.win 2).blk t).view.emb y) := by
  pointwise [k1_pay1, prod]
  blk_point [Region.stg0, Region.stg1, idx t]

/-- After the eight steps the result is the product. -/
theorem arr (c : Dev nD) : (Region.dat V b c).arrAt 2 cfg1.N = prod (V c main_v6) (V c main_v4) := by
  refine (Region.dat V b c).arrAt_eq_of_covers 2 _ (by decide +kernel) fun t _ y => ?_
  blk_simp
  exact point V c t y

end Cert.Proof.Product

end
-- ==== Proof.Ref.lean ====
/-
The reference at an index.
-/
module

public import proofs.«01_k».proof.Proof.Gen.ReferenceIdeal.Run
public import Idealize.ShloMosaic.PureOps.Ideal
public import Idealize.ShloMosaic.Lib.Pipeline.ValueKit
public import Idealize.ShloMosaic.Lib.ReduceAll
public import Idealize.ShloMosaic.Lib.Affine

@[expose] public section

set_option maxRecDepth 16384

noncomputable section

namespace Cert.Proof.Ref

open Cert.ReferenceIdeal Cert.ReferenceIdeal.Gen
open Idealize.ShloMosaic

variable (a0 : IVec S4096x200 32) (a1 : IVec S4096x200 1) (a2 : FVec Ideal S50x32 .f32)

/-- The ids, wrapped where negative. -/
def wrapped : IVec S4096x200 32 := select (cmpi .slt a0 (broadcastInDim S4096x200 ![] bcast_S_S4096x200 (constantI S_ 32 0#32))) (addi a0 (broadcastInDim S4096x200 ![] bcast_S_S4096x200 (constantI S_ 32 50#32))) a0
/-- The same with a unit axis. -/
def starts : IVec S4096x200x1 32 := broadcastInDim S4096x200x1 ![0, 1] bcast_S4096x200_S4096x200x1_0_1 (wrapped a0)
/-- Where the id is in range. -/
def okay : IVec S4096x200 1 := Host.reduce IntOp.andi (andi (cmpi .sge (starts a0) (broadcastInDim S4096x200x1 ![] bcast_S_S4096x200x1 (constantI S_ 32 0#32))) (cmpi .sle (starts a0) (broadcastInDim S4096x200x1 ![0, 1, 2] bcast_S1x1x1_S4096x200x1_0_1_2 (broadcastInDim S1x1x1 ![2] bcast_S1_S1x1x1_2 (constantI S1 32 49#32))))) (constantI S_ 1 1#1) reducesTo_S4096x200x1_S4096x200_d2 h_S_
/-- The rows looked up. -/
def looked : FVec Ideal S4096x200x32 .f32 := select (broadcastInDim S4096x200x32 ![0, 1] bcast_S4096x200_S4096x200x32_0_1 (okay a0)) (Host.gather gather_S50x32_S4096x200x1_S4096x200x32_2_0_n_n_0_2_132 a2 (starts a0)) (broadcastInDim S4096x200x32 ![] bcast_S_S4096x200x32 (constant S_ .f32 0x7FC00000#32))
/-- The rows, zero where the mask is not set. -/
def masked : FVec Ideal S4096x200x32 .f32 := select (broadcastInDim S4096x200x32 ![0, 1, 2] bcast_S4096x200x1_S4096x200x32_0_1_2 (broadcastInDim S4096x200x1 ![0, 1] bcast_S4096x200_S4096x200x1_0_1 a1)) (looked a0 a2) (broadcastInDim S4096x200x32 ![] bcast_S_S4096x200x32 (id (constant S_ .f32 0x00000000#32)))
/-- Their sum over the positions. -/
def result : FVec Ideal S4096x32 .f32 := Host.reduceAdd (masked a0 a1 a2) (constant S_ .f32 0x00000000#32) reducesTo_S4096x200x32_S4096x32_d1 h_S_

/-- The result is the sum of the masked rows. -/
theorem result_at (r : Fin 4096) (c : Fin 32) : result a0 a1 a2 (ix2 r c) = ∑ s : Fin 200, masked a0 a1 a2 (ix3 r s c) := by
  pointwise [result]

/-- Where every id is in range none is wrapped. -/
theorem wrapped_at (h : ∀ i, (a0 i).toNat < 50) : wrapped a0 = a0 := by
  funext i
  pointwise [wrapped]
  have hn : IntOp.cmpi .slt (a0 i) 0#32 = 0#1 := by
    refine ValueIdx.eq_zero_of_ne_one fun e => ?_
    have h1 := IntOp.cmpi_slt.1 e
    rw [show (0#32 : BitVec 32).toInt = 0 from rfl, BitVec.toInt_eq_toNat_cond] at h1
    have := h i
    split at h1 <;> omega
  rw [hn]; rfl

/-- The gather starts at the id. -/
theorem starts_at (h : ∀ i, (a0 i).toNat < 50) (r : Fin 4096) (s : Fin 200) : starts a0 (ix3 r s (0 : Fin 1)) = a0 (ix2 r s) := by
  unfold starts
  rw [wrapped_at a0 h]
  pointwise

/-- Every id counts as in range. -/
theorem okay_at (h : ∀ i, (a0 i).toNat < 50) (i) : okay a0 i = 1#1 := by
  unfold okay starts
  rw [wrapped_at a0 h]
  refine Host.reduce_andi_one _ _ _ _ _ rfl fun i => ?_
  pointwise
  have hi := h (ix2 (i 0) (i 1))
  have e : (a0 (ix2 (i 0) (i 1))).toInt = (a0 (ix2 (i 0) (i 1))).toNat := BitVec.toInt_eq_toNat_of_lt (by omega)
  refine IntOp.andi_eq_one.2 ⟨IntOp.cmpi_sge.2 ?_, IntOp.cmpi_sle.2 ?_⟩
  · rw [e]; exact Int.natCast_nonneg _
  · rw [e, show (49#32 : BitVec 32).toInt = 49 from rfl]; omega

/-- The row gathered for an id in range is the table's row at the id. -/
theorem gather_at (x : FVec Ideal S50x32 .f32) (i : IVec S4096x200x1 32) (r : Fin 4096) (s : Fin 200) (c : Fin 32) (h : (i (ix3 r s (0 : Fin 1))).toNat < 50) :
    Host.gather gather_S50x32_S4096x200x1_S4096x200x32_2_0_n_n_0_2_132 x i (ix3 r s c) = x (ix2 ⟨(i (ix3 r s (0 : Fin 1))).toNat, h⟩ c) := by
  refine congrArg x (funext fun a => Fin.ext ?_)
  match a with
  | ⟨0, _⟩ =>
    have e : (i (ix3 r s (0 : Fin 1))).toInt.toNat = (i (ix3 r s (0 : Fin 1))).toNat := by
      rw [BitVec.toInt_eq_toNat_of_lt (by omega), Int.toNat_natCast]
    have hs : gather_S50x32_S4096x200x1_S4096x200x32_2_0_n_n_0_2_132.siIdx (ix3 r s c) ⟨0, Nat.one_pos⟩ = ix3 r s (0 : Fin 1) := by
      funext b
      match b with
      | ⟨0, _⟩ => exact Fin.ext rfl
      | ⟨1, _⟩ => exact Fin.ext rfl
      | ⟨2, _⟩ => exact Fin.ext rfl
    show min (i (gather_S50x32_S4096x200x1_S4096x200x32_2_0_n_n_0_2_132.siIdx (ix3 r s c) ⟨0, Nat.one_pos⟩)).toInt.toNat 49 + 0 + 0 = (i (ix3 r s (0 : Fin 1))).toNat
    rw [hs, e]
    omega
  | ⟨1, _⟩ =>
    show 0 + 0 + c.val = c.val
    omega

/-- The masked rows: the table's row at the id where the mask holds, zero elsewhere. -/
theorem masked_at (h : ∀ i, (a0 i).toNat < 50) (r : Fin 4096) (s : Fin 200) (c : Fin 32) :
    masked a0 a1 a2 (ix3 r s c) = if a1 (ix2 r s) = 1#1 then a2 (ix2 ⟨(a0 (ix2 r s)).toNat, h _⟩ c) else (0 : EReal) := by
  pointwise [masked, looked]
  rw [okay_at a0 h, ValueIdx.select_one]
  have hg := gather_at a2 (starts a0) r s c (by rw [starts_at a0 h]; exact h _)
  simp only [starts_at a0 h] at hg
  split
  · rename_i e
    rw [e, ValueIdx.select_one]; exact hg
  · rename_i e
    rw [ValueIdx.eq_zero_of_ne_one e, ValueIdx.select_zero]
    exact Ideal.ofBits_zero .f32

end Cert.Proof.Ref

end
-- ==== Proof.Value.lean ====
/-
Over the extended reals the kernel leaves the reference's result: the counts of a row times the padded table are the
sum of the table's rows at the ids the mask admits.
-/
module

public import proofs.«01_k».proof.Proof.Frame
public import proofs.«01_k».proof.Proof.Sums
public import proofs.«01_k».proof.Proof.Product
public import proofs.«01_k».proof.Proof.Ref

@[expose] public section

set_option maxRecDepth 16384

noncomputable section

namespace Cert.Proof.Value

open Cert.KernelIdeal Cert.KernelIdeal.Gen Cert.Proof.Hist Cert.Proof.Tile Cert.Proof.Launch Cert.Proof.Main
open Idealize.ShloMosaic Idealize.ShloMosaic.StableHlo
open Idealize.ShloMosaic.TcCoe

variable (x : IVec S4096x200 32) (k : IVec S4096x200 1) (t : FVec Ideal S50x32 .f32)

/-- The ids in one line. -/
abbrev lineX : S819200.Idx → BitVec 32 := shapeCast (s := S4096x200) S819200 x shapeCasts_S4096x200_S819200
/-- The mask values in one line. -/
abbrev lineM : S819200.Idx → Ideal .f32 := shapeCast (s := S4096x200) S819200 (uitofp (F := Ideal) .f32 k) shapeCasts_S4096x200_S819200
/-- The zeros the counts start from. -/
abbrev zeros : Counts Ideal := broadcastInDim S8192 ![] bcast_S_S8192 (constant S_ .f32 0x00000000#32)
/-- The table with its fourteen rows of padding. -/
abbrev padded : FVec Ideal S64x32 .f32 := pad S64x32 ![0, 0] ![14, 0] ![0, 0] t (sitofp .f32 (constantI S_ 32 0#32)) pads_S50x32_S64x32_0140_000 h_S_
/-- The counts as the kernel leaves them, by row. -/
abbrev counts : FVec Ideal S4096x64 .f32 := shapeCast (s := S262144) S4096x64 (cntArr (lineX x) (lineM k) zeros) shapeCasts_S262144_S4096x64

/-- An array in one line at position `200 * r + s` is the array at row `r`, column `s`. -/
theorem line_at {α : Type} (a : S4096x200.Idx → α) (r : Fin 4096) (s : Fin 200) (p : S819200.Idx) (hp : (p 0).val = 200 * r.val + s.val) :
    shapeCast (s := S4096x200) S819200 a shapeCasts_S4096x200_S819200 p = a (ix2 r s) := by
  refine shapeCast_apply _ _ _ _ ?_
  rw [Shape.rowMajor_val_two, Shape.rowMajor_val_one]
  show r.val * 200 + s.val = (p 0).val
  omega

/-- The worker that counts row `r`. -/
def worker (r : Fin 4096) : Fin 32 := ⟨r.val / 128, by omega⟩

/-- The id at column `s` of row `r`, as its worker numbers it. -/
theorem ids_at (r : Fin 4096) (s : Fin 200) : idsOf (lineX x) (worker r) (200 * (r.val % 128) + s.val) = x (ix2 r s) := by
  unfold idsOf
  rw [dif_pos (by omega)]
  refine line_at x r s _ ?_
  show 25600 * (r.val / 128) + (200 * (r.val % 128) + s.val) = 200 * r.val + s.val
  omega

/-- The mask value at column `s` of row `r`, as its worker numbers it. -/
theorem mask_at (r : Fin 4096) (s : Fin 200) :
    (maskOf (F := Ideal) (lineM k) (worker r) (200 * (r.val % 128) + s.val) : EReal) = (((k (ix2 r s)).toNat : ℝ) : EReal) := by
  unfold maskOf
  refine line_at _ r s _ ?_
  show min (25600 * (r.val / 128) + (200 * (r.val % 128) + s.val)) 819199 = 200 * r.val + s.val
  omega

/-- Every mask value is nonnegative. -/
theorem mask_nonneg (w : Fin 32) (q : ℕ) : (0 : EReal) ≤ maskOf (F := Ideal) (lineM k) w q := by
  unfold maskOf lineM shapeCast
  exact EReal.coe_nonneg.2 (Nat.cast_nonneg _)

/-- The ids in one line are in range too. -/
theorem lineX_lt (hx : ∀ i, (x i).toNat < 50) (j : S819200.Idx) : (lineX x j).toNat < 64 := by
  unfold lineX shapeCast
  have := hx ((Shape.reshapeEquiv shapeCasts_S4096x200_S819200) j)
  omega

/-- The count of value `v` in row `r` is the sum of the mask values where the id is `v`. -/
theorem counts_at (hx : ∀ i, (x i).toNat < 50) (r : Fin 4096) (v : Fin 64) :
    (counts x k (ix2 r v) : EReal) = ∑ s ∈ Finset.range 200,
      if (idsOf (lineX x) (worker r) (200 * (r.val % 128) + s)).toNat = v.val then (maskOf (F := Ideal) (lineM k) (worker r) (200 * (r.val % 128) + s) : EReal) else 0 := by
  have h1 : counts x k (ix2 r v) = cntArr (lineX x) (lineM k) zeros (fun | 0 => ⟨64 * r.val + v.val, by show _ < 262144; omega⟩) := by
    refine shapeCast_apply _ _ _ _ ?_
    rw [Shape.rowMajor_val_two, Shape.rowMajor_val_one]
    show 64 * r.val + v.val = r.val * 64 + v.val
    omega
  rw [h1, cntArr_at (lineX x) (lineM k) zeros _ (worker r) (fun | 0 => ⟨64 * (r.val % 128) + v.val, by show _ < 8192; omega⟩)
    (by show 64 * r.val + v.val = 8192 * (r.val / 128) + (64 * (r.val % 128) + v.val); omega)]
  unfold cntOf
  refine (Sums.hist_sum _ _ _ _ _).trans ?_
  rw [show (zeros _ : EReal) = 0 from Ideal.ofBits_zero .f32, zero_add]
  exact Sums.row_sum _ _ (Tile.ids_lt (lineX_lt x hx) _) (r.val % 128) v.val (by omega) v.isLt

/-- The padded table at one of the table's own rows. -/
theorem padded_at (v : Fin 64) (c : Fin 32) (hv : v.val < 50) : padded t (ix2 v c) = t (ix2 ⟨v.val, hv⟩ c) := by
  pointwise
  rw [dif_pos hv]

/-- The counts times the padded table are the reference's result. -/
theorem prod_eq (hx : ∀ i, (x i).toNat < 50) : Product.prod (counts x k) (padded t) = Ref.result x k t := by
  funext j
  obtain ⟨r, c, rfl⟩ : ∃ (r : Fin 4096) (c : Fin 32), j = ix2 r c := ⟨j 0, j 1, by funext a; match a with | ⟨0, _⟩ => rfl | ⟨1, _⟩ => rfl⟩
  rw [Ref.result_at]
  let T : ℕ → EReal := fun v => if h : v < 64 then padded t (ix2 ⟨v, h⟩ c) else 0
  have hT : ∀ v : Fin 64, (padded t (ix2 v c) : EReal) = T v.val := fun v => by
    show _ = if h : _ then _ else _
    rw [dif_pos v.isLt]
  show (∑ v : Fin 64, counts x k (ix2 r v) * padded t (ix2 v c) : EReal) = _
  let C : ℕ → EReal := fun v => ∑ s ∈ Finset.range 200, if (idsOf (lineX x) (worker r) (200 * (r.val % 128) + s)).toNat = v
    then (maskOf (F := Ideal) (lineM k) (worker r) (200 * (r.val % 128) + s) : EReal) else 0
  have h1 : ∀ v : Fin 64, (counts x k (ix2 r v) * padded t (ix2 v c) : EReal) = C v.val * T v.val := fun v => by
    rw [counts_at x k hx, hT]
  have h2 : (∑ v ∈ Finset.range 64, C v * T v) = _ :=
    Sums.counts_mul 200 (fun s => (idsOf (lineX x) (worker r) (200 * (r.val % 128) + s)).toNat)
      (fun s => maskOf (F := Ideal) (lineM k) (worker r) (200 * (r.val % 128) + s)) (fun _ => mask_nonneg k _ _) (fun _ => Tile.ids_lt (lineX_lt x hx) _ _) T
  refine (Finset.sum_congr rfl fun v _ => h1 v).trans ((Finset.sum_range (fun v : ℕ => C v * T v)).symm.trans (h2.trans ((Finset.sum_range _).trans ?_)))
  refine Finset.sum_congr rfl fun s _ => ?_
  rw [Ref.masked_at x k t hx]
  have hi := hx (ix2 r s)
  rw [mask_at, ids_at]
  have e : T (x (ix2 r s)).toNat = t (ix2 ⟨(x (ix2 r s)).toNat, hi⟩ c) := by
    show (if h : _ then _ else _) = _
    rw [dif_pos (by omega)]
    exact padded_at t ⟨_, _⟩ c hi
  rw [e]
  split
  · rename_i hk; rw [hk]; simp
  · rename_i hk; rw [ValueIdx.eq_zero_of_ne_one hk]; simp

variable (m : (ℓ : Loc nD τ sig) → Buf (Elt Ideal) ℓ)

/-- The product's left operand is the counts. -/
theorem VC_counts (d : Dev nD) : VC m d (Proc.devRef .tc main_v6) = counts (m ((d.tc : Thread nD τ).loc main_arg0)) (m ((d.tc : Thread nD τ).loc main_arg1)) := by
  unfold VC
  refine (reshape_result main_v5 main_v6 _ _ _ _ _).trans ?_
  have e : VB m d (Proc.devRef .tc main_v5) = CB (XB m) (MB m) (ZB m) d := Function.update_self (Proc.devRef .tc main_v5) _ (VA m d)
  rw [e]
  unfold CB
  rw [Frame.XB_eq, Frame.MB_eq, Frame.ZB_eq]
  rfl

/-- The product's right operand is the padded table. -/
theorem VC_table (d : Dev nD) : VC m d (Proc.devRef .tc main_v4) = padded (m ((d.tc : Thread nD τ).loc main_arg2)) := by
  refine Eq.trans ?_ (Frame.VA_tab m d)
  unfold VC VB
  rw [HloOp.result_of_not_mem _ _ (show Proc.devRef .tc main_v4 ∉ refs {main_v6} by decide +kernel), Function.update_of_ne (by decide +kernel)]

/-- What the kernel leaves is the reference's result of the same arguments. -/
theorem out_eq (d : Dev nD)
    (hP : Cert.Pre_in_range.fn (F := Ideal) (m ((d.tc : Thread nD τ).loc main_arg0)) (m ((d.tc : Thread nD τ).loc main_arg1)) (m ((d.tc : Thread nD τ).loc main_arg2)) = fun _ => 1#1) :
    out m d = Ref.result (m ((d.tc : Thread nD τ).loc main_arg0)) (m ((d.tc : Thread nD τ).loc main_arg1)) (m ((d.tc : Thread nD τ).loc main_arg2)) := by
  unfold out
  rw [Product.arr]
  show Product.prod (VC m d (Proc.devRef .tc main_v6)) (VC m d (Proc.devRef .tc main_v4)) = _
  rw [VC_counts, VC_table]
  exact prod_eq _ _ _ (Frame.ids_lt _ _ _ hP)

end Cert.Proof.Value

end
-- ==== Proof.lean ====
/-
The proof of `Cert.Claim`: the frames of the kernel, of its idealization and of the reference, that the idealization
rewrote nothing, and that over the extended reals the kernel's idealization and the reference leave equal results.
-/
module

public import proofs.«01_k».proof.Defs
public import proofs.«01_k».proof.Proof.Value
public import proofs.«01_k».proof.Proof.Gen.ReferenceIdeal.Run

@[expose] public section

noncomputable section

namespace Cert.Proof

open Idealize.ShloMosaic Idealize.SL.Sem

/-- The reference runs, its arguments end unchanged, its semaphores (it has none) at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the arguments in range. -/
theorem frame_reference_pre : Cert.quiescent_ReferenceIdeal_pre_in_range := fun m ρ _ => frame_reference m ρ True.intro

/-- Of ids in range, the kernel's idealization and the reference leave equal results, the arguments unchanged. -/
theorem algebraic : Cert.algebraic_KernelIdeal_ReferenceIdeal := by
  intro m g m' g' hP hA
  refine ⟨fun c => Main.out m c, ?_, ?_⟩
  · exact (θ_run Cert.KernelIdeal.defs _ _).mono (fun r h => h.1) (Frame.run_main (F := Ideal) m g hP)
  · refine (θ_run Cert.ReferenceIdeal.defs _ _).mono (fun r h c => ⟨?_, (h c).2⟩) (Cert.ReferenceIdeal.Value.run (F := Ideal) m' g')
    obtain ⟨e0, e1, e2⟩ := hA c
    have e : Ref.result (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = Main.out m c := by
      rw [Value.out_eq m c (hP c), e0, e1, e2]
    exact (h c).1.trans e

theorem claim : Cert.Claim := ⟨Cert.Kernel.Gen.facts, Cert.KernelIdeal.Gen.facts, Cert.ReferenceIdeal.Gen.facts, Cert.Pre_in_range.Gen.facts,
  Frame.frame_kernel, Frame.frame_kernelIdeal, frame_reference, frame_reference_pre, trivial, algebraic⟩

end Cert.Proof

end
